-- ==== Defs.lean ====
def Pre_Masks [hPre_in_range : Cert.Pre_in_range.Facts] (m : (ℓ : Loc Cert.Masks.nD Cert.Masks.τ Cert.Masks.sig) → Buf (Elt Bits) ℓ) : Prop :=
  ∀ c : Dev Cert.Masks.nD,
    (Cert.Pre_in_range.fn (F := Bits) (m ((c.tc : Thread Cert.Masks.nD Cert.Masks.τ).loc Cert.Masks.main_arg0)) (m ((c.tc : Thread Cert.Masks.nD Cert.Masks.τ).loc Cert.Masks.main_arg1)) (m ((c.tc : Thread Cert.Masks.nD Cert.Masks.τ).loc Cert.Masks.main_arg2))) = (fun _ => 1#1)

def Pre_MasksIdeal [hPre_in_range : Cert.Pre_in_range.Facts] (m : (ℓ : Loc Cert.MasksIdeal.nD Cert.MasksIdeal.τ Cert.MasksIdeal.sig) → Buf (Elt Ideal) ℓ) : Prop :=
  ∀ c : Dev Cert.MasksIdeal.nD,
    (Cert.Pre_in_range.fn (F := Ideal) (m ((c.tc : Thread Cert.MasksIdeal.nD Cert.MasksIdeal.τ).loc Cert.MasksIdeal.main_arg0)) (m ((c.tc : Thread Cert.MasksIdeal.nD Cert.MasksIdeal.τ).loc Cert.MasksIdeal.main_arg1)) (m ((c.tc : Thread Cert.MasksIdeal.nD Cert.MasksIdeal.τ).loc Cert.MasksIdeal.main_arg2))) = (fun _ => 1#1)

def Pre_MasksReferenceIdeal (m : (ℓ : Loc Cert.MasksReferenceIdeal.nD Cert.MasksReferenceIdeal.τ Cert.MasksReferenceIdeal.sig) → Buf (Elt Ideal) ℓ) : Prop :=
  True

def Pre_MasksReferenceIdeal_in_range [hPre_in_range : Cert.Pre_in_range.Facts] (m : (ℓ : Loc Cert.MasksReferenceIdeal.nD Cert.MasksReferenceIdeal.τ Cert.MasksReferenceIdeal.sig) → Buf (Elt Ideal) ℓ) : Prop :=
  ∀ c : Dev Cert.MasksReferenceIdeal.nD,
    (Cert.Pre_in_range.fn (F := Ideal) (m ((c.tc : Thread Cert.MasksReferenceIdeal.nD Cert.MasksReferenceIdeal.τ).loc Cert.MasksReferenceIdeal.main_arg0)) (m ((c.tc : Thread Cert.MasksReferenceIdeal.nD Cert.MasksReferenceIdeal.τ).loc Cert.MasksReferenceIdeal.main_arg1)) (m ((c.tc : Thread Cert.MasksReferenceIdeal.nD Cert.MasksReferenceIdeal.τ).loc Cert.MasksReferenceIdeal.main_arg2))) = (fun _ => 1#1)

def Pre_TopKIdeal (m : (ℓ : Loc Cert.TopKIdeal.nD Cert.TopKIdeal.τ Cert.TopKIdeal.sig) → Buf (Elt Ideal) ℓ) : Prop :=
  True

def Pre_TopKIdeal_finite [hPre_finite : Cert.Pre_finite.Facts] (m : (ℓ : Loc Cert.TopKIdeal.nD Cert.TopKIdeal.τ Cert.TopKIdeal.sig) → Buf (Elt Ideal) ℓ) : Prop :=
  ∀ c : Dev Cert.TopKIdeal.nD,
    (Cert.Pre_finite.fn (F := Ideal) (m ((c.tc : Thread Cert.TopKIdeal.nD Cert.TopKIdeal.τ).loc Cert.TopKIdeal.main_arg0))) = (fun _ => 1#1)

def Pre_TopKReferenceIdeal (m : (ℓ : Loc Cert.TopKReferenceIdeal.nD Cert.TopKReferenceIdeal.τ Cert.TopKReferenceIdeal.sig) → Buf (Elt Ideal) ℓ) : Prop :=
  True

def Pre_TopKReferenceIdeal_finite [hPre_finite : Cert.Pre_finite.Facts] (m : (ℓ : Loc Cert.TopKReferenceIdeal.nD Cert.TopKReferenceIdeal.τ Cert.TopKReferenceIdeal.sig) → Buf (Elt Ideal) ℓ) : Prop :=
  ∀ c : Dev Cert.TopKReferenceIdeal.nD,
    (Cert.Pre_finite.fn (F := Ideal) (m ((c.tc : Thread Cert.TopKReferenceIdeal.nD Cert.TopKReferenceIdeal.τ).loc Cert.TopKReferenceIdeal.main_arg0))) = (fun _ => 1#1)

def quiescent_Masks [hMasks : Cert.Masks.Facts] [hPre_in_range : Cert.Pre_in_range.Facts] : Prop :=
  ∀ (m : (ℓ : Loc Cert.Masks.nD Cert.Masks.τ Cert.Masks.sig) → Buf (Elt Bits) ℓ) (g : Dev Cert.Masks.nD → PrngReg), Pre_Masks m →
    θ_run (Cert.Masks.defs (F := Bits)) (onTc (τ := Cert.Masks.τ) (Cert.Masks.main (F := Bits))) ⟨m, fun _ => 0, g⟩ (fun r => (∀ c : Dev Cert.Masks.nD,
      r.2.mem ((c.tc : Thread Cert.Masks.nD Cert.Masks.τ).loc Cert.Masks.main_arg0) = m ((c.tc : Thread Cert.Masks.nD Cert.Masks.τ).loc Cert.Masks.main_arg0)
      ∧ r.2.mem ((c.tc : Thread Cert.Masks.nD Cert.Masks.τ).loc Cert.Masks.main_arg1) = m ((c.tc : Thread Cert.Masks.nD Cert.Masks.τ).loc Cert.Masks.main_arg1)
      ∧ r.2.mem ((c.tc : Thread Cert.Masks.nD Cert.Masks.τ).loc Cert.Masks.main_arg2) = m ((c.tc : Thread Cert.Masks.nD Cert.Masks.τ).loc Cert.Masks.main_arg2))
      ∧ r.2.sem = fun _ => 0)

def quiescent_MasksIdeal [hMasksIdeal : Cert.MasksIdeal.Facts] [hPre_in_range : Cert.Pre_in_range.Facts] : Prop :=
  ∀ (m : (ℓ : Loc Cert.MasksIdeal.nD Cert.MasksIdeal.τ Cert.MasksIdeal.sig) → Buf (Elt Ideal) ℓ) (g : Dev Cert.MasksIdeal.nD → PrngReg), Pre_MasksIdeal m →
    θ_run (Cert.MasksIdeal.defs (F := Ideal)) (onTc (τ := Cert.MasksIdeal.τ) (Cert.MasksIdeal.main (F := Ideal))) ⟨m, fun _ => 0, g⟩ (fun r => (∀ c : Dev Cert.MasksIdeal.nD,
      r.2.mem ((c.tc : Thread Cert.MasksIdeal.nD Cert.MasksIdeal.τ).loc Cert.MasksIdeal.main_arg0) = m ((c.tc : Thread Cert.MasksIdeal.nD Cert.MasksIdeal.τ).loc Cert.MasksIdeal.main_arg0)
      ∧ r.2.mem ((c.tc : Thread Cert.MasksIdeal.nD Cert.MasksIdeal.τ).loc Cert.MasksIdeal.main_arg1) = m ((c.tc : Thread Cert.MasksIdeal.nD Cert.MasksIdeal.τ).loc Cert.MasksIdeal.main_arg1)
      ∧ r.2.mem ((c.tc : Thread Cert.MasksIdeal.nD Cert.MasksIdeal.τ).loc Cert.MasksIdeal.main_arg2) = m ((c.tc : Thread Cert.MasksIdeal.nD Cert.MasksIdeal.τ).loc Cert.MasksIdeal.main_arg2))
      ∧ r.2.sem = fun _ => 0)

def quiescent_MasksReferenceIdeal [hMasksReferenceIdeal : Cert.MasksReferenceIdeal.Facts] : Prop :=
  ∀ (m : (ℓ : Loc Cert.MasksReferenceIdeal.nD Cert.MasksReferenceIdeal.τ Cert.MasksReferenceIdeal.sig) → Buf (Elt Ideal) ℓ) (g : Dev Cert.MasksReferenceIdeal.nD → PrngReg), Pre_MasksReferenceIdeal m →
    θ_run (Cert.MasksReferenceIdeal.defs (F := Ideal)) (onTc (τ := Cert.MasksReferenceIdeal.τ) (Cert.MasksReferenceIdeal.main (F := Ideal))) ⟨m, fun _ => 0, g⟩ (fun r => (∀ c : Dev Cert.MasksReferenceIdeal.nD,
      r.2.mem ((c.tc : Thread Cert.MasksReferenceIdeal.nD Cert.MasksReferenceIdeal.τ).loc Cert.MasksReferenceIdeal.main_arg0) = m ((c.tc : Thread Cert.MasksReferenceIdeal.nD Cert.MasksReferenceIdeal.τ).loc Cert.MasksReferenceIdeal.main_arg0)
      ∧ r.2.mem ((c.tc : Thread Cert.MasksReferenceIdeal.nD Cert.MasksReferenceIdeal.τ).loc Cert.MasksReferenceIdeal.main_arg1) = m ((c.tc : Thread Cert.MasksReferenceIdeal.nD Cert.MasksReferenceIdeal.τ).loc Cert.MasksReferenceIdeal.main_arg1)
      ∧ r.2.mem ((c.tc : Thread Cert.MasksReferenceIdeal.nD Cert.MasksReferenceIdeal.τ).loc Cert.MasksReferenceIdeal.main_arg2) = m ((c.tc : Thread Cert.MasksReferenceIdeal.nD Cert.MasksReferenceIdeal.τ).loc Cert.MasksReferenceIdeal.main_arg2))
      ∧ r.2.sem = fun _ => 0)

def quiescent_MasksReferenceIdeal_pre_in_range [hMasksReferenceIdeal : Cert.MasksReferenceIdeal.Facts] [hPre_in_range : Cert.Pre_in_range.Facts] : Prop :=
  ∀ (m : (ℓ : Loc Cert.MasksReferenceIdeal.nD Cert.MasksReferenceIdeal.τ Cert.MasksReferenceIdeal.sig) → Buf (Elt Ideal) ℓ) (g : Dev Cert.MasksReferenceIdeal.nD → PrngReg), Pre_MasksReferenceIdeal_in_range m →
    θ_run (Cert.MasksReferenceIdeal.defs (F := Ideal)) (onTc (τ := Cert.MasksReferenceIdeal.τ) (Cert.MasksReferenceIdeal.main (F := Ideal))) ⟨m, fun _ => 0, g⟩ (fun r => (∀ c : Dev Cert.MasksReferenceIdeal.nD,
      r.2.mem ((c.tc : Thread Cert.MasksReferenceIdeal.nD Cert.MasksReferenceIdeal.τ).loc Cert.MasksReferenceIdeal.main_arg0) = m ((c.tc : Thread Cert.MasksReferenceIdeal.nD Cert.MasksReferenceIdeal.τ).loc Cert.MasksReferenceIdeal.main_arg0)
      ∧ r.2.mem ((c.tc : Thread Cert.MasksReferenceIdeal.nD Cert.MasksReferenceIdeal.τ).loc Cert.MasksReferenceIdeal.main_arg1) = m ((c.tc : Thread Cert.MasksReferenceIdeal.nD Cert.MasksReferenceIdeal.τ).loc Cert.MasksReferenceIdeal.main_arg1)
      ∧ r.2.mem ((c.tc : Thread Cert.MasksReferenceIdeal.nD Cert.MasksReferenceIdeal.τ).loc Cert.MasksReferenceIdeal.main_arg2) = m ((c.tc : Thread Cert.MasksReferenceIdeal.nD Cert.MasksReferenceIdeal.τ).loc Cert.MasksReferenceIdeal.main_arg2))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKIdeal_pre_finite [hTopKIdeal : Cert.TopKIdeal.Facts] [hPre_finite : Cert.Pre_finite.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal_finite m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKReferenceIdeal [hTopKReferenceIdeal : Cert.TopKReferenceIdeal.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0))
      ∧ r.2.sem = fun _ => 0)

def quiescent_TopKReferenceIdeal_pre_finite [hTopKReferenceIdeal : Cert.TopKReferenceIdeal.Facts] [hPre_finite : Cert.Pre_finite.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal_finite m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0))
      ∧ r.2.sem = fun _ => 0)

def preserves_Masks_MasksIdeal : Prop :=
  True

def algebraic_MasksIdeal_MasksReferenceIdeal [hMasksIdeal : Cert.MasksIdeal.Facts] [hMasksReferenceIdeal : Cert.MasksReferenceIdeal.Facts] [hPre_in_range : Cert.Pre_in_range.Facts] : Prop :=
  ∀ (m : (ℓ : Loc Cert.MasksIdeal.nD Cert.MasksIdeal.τ Cert.MasksIdeal.sig) → Buf (Elt Ideal) ℓ) (g : Dev Cert.MasksIdeal.nD → PrngReg)
    (m' : (ℓ : Loc Cert.MasksReferenceIdeal.nD Cert.MasksReferenceIdeal.τ Cert.MasksReferenceIdeal.sig) → Buf (Elt Ideal) ℓ) (g' : Dev Cert.MasksReferenceIdeal.nD → PrngReg), Pre_MasksIdeal m →
    (∀ c : Dev Cert.MasksIdeal.nD,
      m' ((c.tc : Thread Cert.MasksReferenceIdeal.nD Cert.MasksReferenceIdeal.τ).loc Cert.MasksReferenceIdeal.main_arg0) = m ((c.tc : Thread Cert.MasksIdeal.nD Cert.MasksIdeal.τ).loc Cert.MasksIdeal.main_arg0)
      ∧ m' ((c.tc : Thread Cert.MasksReferenceIdeal.nD Cert.MasksReferenceIdeal.τ).loc Cert.MasksReferenceIdeal.main_arg1) = m ((c.tc : Thread Cert.MasksIdeal.nD Cert.MasksIdeal.τ).loc Cert.MasksIdeal.main_arg1)
      ∧ m' ((c.tc : Thread Cert.MasksReferenceIdeal.nD Cert.MasksReferenceIdeal.τ).loc Cert.MasksReferenceIdeal.main_arg2) = m ((c.tc : Thread Cert.MasksIdeal.nD Cert.MasksIdeal.τ).loc Cert.MasksIdeal.main_arg2)) →
    ∃ (v0 : (c : Dev Cert.MasksIdeal.nD) → Buf (Elt Ideal) ((c.tc : Thread Cert.MasksIdeal.nD Cert.MasksIdeal.τ).loc Cert.MasksIdeal.main_v6)) (v1 : (c : Dev Cert.MasksIdeal.nD) → Buf (Elt Ideal) ((c.tc : Thread Cert.MasksIdeal.nD Cert.MasksIdeal.τ).loc Cert.MasksIdeal.main_v4)),
      θ_run (Cert.MasksIdeal.defs (F := Ideal)) (onTc (τ := Cert.MasksIdeal.τ) (Cert.MasksIdeal.main (F := Ideal))) ⟨m, fun _ => 0, g⟩ (fun r => ∀ c : Dev Cert.MasksIdeal.nD,
          r.2.mem ((c.tc : Thread Cert.MasksIdeal.nD Cert.MasksIdeal.τ).loc Cert.MasksIdeal.main_v6) = v0 c
          ∧ r.2.mem ((c.tc : Thread Cert.MasksIdeal.nD Cert.MasksIdeal.τ).loc Cert.MasksIdeal.main_v4) = v1 c
          ∧ r.2.mem ((c.tc : Thread Cert.MasksIdeal.nD Cert.MasksIdeal.τ).loc Cert.MasksIdeal.main_arg0) = m ((c.tc : Thread Cert.MasksIdeal.nD Cert.MasksIdeal.τ).loc Cert.MasksIdeal.main_arg0)
          ∧ r.2.mem ((c.tc : Thread Cert.MasksIdeal.nD Cert.MasksIdeal.τ).loc Cert.MasksIdeal.main_arg1) = m ((c.tc : Thread Cert.MasksIdeal.nD Cert.MasksIdeal.τ).loc Cert.MasksIdeal.main_arg1)
          ∧ r.2.mem ((c.tc : Thread Cert.MasksIdeal.nD Cert.MasksIdeal.τ).loc Cert.MasksIdeal.main_arg2) = m ((c.tc : Thread Cert.MasksIdeal.nD Cert.MasksIdeal.τ).loc Cert.MasksIdeal.main_arg2))
      ∧ θ_run (Cert.MasksReferenceIdeal.defs (F := Ideal)) (onTc (τ := Cert.MasksReferenceIdeal.τ) (Cert.MasksReferenceIdeal.main (F := Ideal))) ⟨m', fun _ => 0, g'⟩ (fun r => ∀ c : Dev Cert.MasksReferenceIdeal.nD,
          r.2.mem ((c.tc : Thread Cert.MasksReferenceIdeal.nD Cert.MasksReferenceIdeal.τ).loc Cert.MasksReferenceIdeal.main_v23) = v0 c
          ∧ r.2.mem ((c.tc : Thread Cert.MasksReferenceIdeal.nD Cert.MasksReferenceIdeal.τ).loc Cert.MasksReferenceIdeal.main_v25) = v1 c
          ∧ r.2.mem ((c.tc : Thread Cert.MasksReferenceIdeal.nD Cert.MasksReferenceIdeal.τ).loc Cert.MasksReferenceIdeal.main_arg0) = m' ((c.tc : Thread Cert.MasksReferenceIdeal.nD Cert.MasksReferenceIdeal.τ).loc Cert.MasksReferenceIdeal.main_arg0)
          ∧ r.2.mem ((c.tc : Thread Cert.MasksReferenceIdeal.nD Cert.MasksReferenceIdeal.τ).loc Cert.MasksReferenceIdeal.main_arg1) = m' ((c.tc : Thread Cert.MasksReferenceIdeal.nD Cert.MasksReferenceIdeal.τ).loc Cert.MasksReferenceIdeal.main_arg1)
          ∧ r.2.mem ((c.tc : Thread Cert.MasksReferenceIdeal.nD Cert.MasksReferenceIdeal.τ).loc Cert.MasksReferenceIdeal.main_arg2) = m' ((c.tc : Thread Cert.MasksReferenceIdeal.nD Cert.MasksReferenceIdeal.τ).loc Cert.MasksReferenceIdeal.main_arg2))

def algebraic_TopKIdeal_TopKReferenceIdeal_pre_finite [hTopKIdeal : Cert.TopKIdeal.Facts] [hTopKReferenceIdeal : Cert.TopKReferenceIdeal.Facts] [hPre_finite : Cert.Pre_finite.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKReferenceIdeal.nD Cert.TopKReferenceIdeal.τ Cert.TopKReferenceIdeal.sig) → Buf (Elt Ideal) ℓ) (g' : Dev Cert.TopKReferenceIdeal.nD → PrngReg), Pre_TopKIdeal_finite m →
    (∀ c : Dev Cert.TopKIdeal.nD,
      m' ((c.tc : Thread Cert.TopKReferenceIdeal.nD Cert.TopKReferenceIdeal.τ).loc Cert.TopKReferenceIdeal.main_arg0) = m ((c.tc : Thread Cert.TopKIdeal.nD Cert.TopKIdeal.τ).loc Cert.TopKIdeal.main_arg0)) →
    ∃ (v0 : (c : Dev Cert.TopKIdeal.nD) → Buf (Elt Ideal) ((c.tc : Thread Cert.TopKIdeal.nD Cert.TopKIdeal.τ).loc Cert.TopKIdeal.main_v1_0)) (v1 : (c : Dev Cert.TopKIdeal.nD) → Buf (Elt Ideal) ((c.tc : Thread Cert.TopKIdeal.nD Cert.TopKIdeal.τ).loc Cert.TopKIdeal.main_v1_1)) (v2 : (c : Dev Cert.TopKIdeal.nD) → Buf (Elt Ideal) ((c.tc : Thread Cert.TopKIdeal.nD Cert.TopKIdeal.τ).loc Cert.TopKIdeal.main_v1_2)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v1_0) = v0 c
          ∧ r.2.mem ((c.tc : Thread Cert.TopKIdeal.nD Cert.TopKIdeal.τ).loc Cert.TopKIdeal.main_v1_1) = v1 c
          ∧ r.2.mem ((c.tc : Thread Cert.TopKIdeal.nD Cert.TopKIdeal.τ).loc Cert.TopKIdeal.main_v1_2) = v2 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ θ_run (Cert.TopKReferenceIdeal.defs (F := Ideal)) (onTc (τ := Cert.TopKReferenceIdeal.τ) (Cert.TopKReferenceIdeal.main (F := Ideal))) ⟨m', fun _ => 0, g'⟩ (fun r => ∀ c : Dev Cert.TopKReferenceIdeal.nD,
          r.2.mem ((c.tc : Thread Cert.TopKReferenceIdeal.nD Cert.TopKReferenceIdeal.τ).loc Cert.TopKReferenceIdeal.main_v17) = v0 c
          ∧ r.2.mem ((c.tc : Thread Cert.TopKReferenceIdeal.nD Cert.TopKReferenceIdeal.τ).loc Cert.TopKReferenceIdeal.main_v14) = v1 c
          ∧ r.2.mem ((c.tc : Thread Cert.TopKReferenceIdeal.nD Cert.TopKReferenceIdeal.τ).loc Cert.TopKReferenceIdeal.main_v15) = v2 c
          ∧ r.2.mem ((c.tc : Thread Cert.TopKReferenceIdeal.nD Cert.TopKReferenceIdeal.τ).loc Cert.TopKReferenceIdeal.main_arg0) = m' ((c.tc : Thread Cert.TopKReferenceIdeal.nD Cert.TopKReferenceIdeal.τ).loc Cert.TopKReferenceIdeal.main_arg0))

def Claim : Prop :=
  ∃ (hMasks : Cert.Masks.Facts) (hMasksIdeal : Cert.MasksIdeal.Facts) (hMasksReferenceIdeal : Cert.MasksReferenceIdeal.Facts) (hTopKIdeal : Cert.TopKIdeal.Facts) (hTopKReferenceIdeal : Cert.TopKReferenceIdeal.Facts) (hPre_in_range : Cert.Pre_in_range.Facts) (hPre_finite : Cert.Pre_finite.Facts),
    quiescent_Masks (hMasks := hMasks) (hPre_in_range := hPre_in_range)
    ∧ quiescent_MasksIdeal (hMasksIdeal := hMasksIdeal) (hPre_in_range := hPre_in_range)
    ∧ quiescent_MasksReferenceIdeal (hMasksReferenceIdeal := hMasksReferenceIdeal)
    ∧ quiescent_MasksReferenceIdeal_pre_in_range (hMasksReferenceIdeal := hMasksReferenceIdeal) (hPre_in_range := hPre_in_range)
    ∧ quiescent_TopKIdeal (hTopKIdeal := hTopKIdeal)
    ∧ quiescent_TopKIdeal_pre_finite (hTopKIdeal := hTopKIdeal) (hPre_finite := hPre_finite)
    ∧ quiescent_TopKReferenceIdeal (hTopKReferenceIdeal := hTopKReferenceIdeal)
    ∧ quiescent_TopKReferenceIdeal_pre_finite (hTopKReferenceIdeal := hTopKReferenceIdeal) (hPre_finite := hPre_finite)
    ∧ preserves_Masks_MasksIdeal
    ∧ algebraic_MasksIdeal_MasksReferenceIdeal (hMasksIdeal := hMasksIdeal) (hMasksReferenceIdeal := hMasksReferenceIdeal) (hPre_in_range := hPre_in_range)
    ∧ algebraic_TopKIdeal_TopKReferenceIdeal_pre_finite (hTopKIdeal := hTopKIdeal) (hTopKReferenceIdeal := hTopKReferenceIdeal) (hPre_finite := hPre_finite)
-- ==== Pre_finite.lean ====
abbrev S1x200x134 : Shape := ⟨3, ![1, 200, 134]⟩
abbrev S_ : Shape := ⟨0, ![]⟩

class Facts : Prop where
  bcast_S_S1x200x134 : S_.BroadcastsInDim S1x200x134 (![] : Fin 0 → Fin S1x200x134.rank)
  reducesTo_S1x200x134_S_d0_1_2 : S1x200x134.ReducesTo [0, 1, 2] S_
  h_S_ : 0 < S_.numel

variable [Facts]

def fn {F : FTy → Type} [FloatOps F] (main_arg0 : FVec F S1x200x134 .f32) : IVec S_ 1 :=
  let main_v0 : FVec F S1x200x134 .f32 := Host.absf main_arg0
  let main_cst : FVec F S_ .f32 := constant S_ .f32 0x7F800000#32
  let main_v1 : FVec F S1x200x134 .f32 := broadcastInDim S1x200x134 ![] bcast_S_S1x200x134 main_cst
  let main_v2 : IVec S1x200x134 1 := cmpf .olt main_v0 main_v1
  let main_c : IVec S_ 1 := constantI S_ 1 1#1
  let main_v3 : IVec S_ 1 := (fun x v => Host.reduce IntOp.andi x v reducesTo_S1x200x134_S_d0_1_2 h_S_) main_v2 main_c
  main_v3
-- ==== Pre_in_range.lean ====
abbrev S1x200x128x128 : Shape := ⟨4, ![1, 200, 128, 128]⟩
abbrev S100 : Shape := ⟨1, ![100]⟩
abbrev S100x1x128 : Shape := ⟨3, ![100, 1, 128]⟩
abbrev S_ : Shape := ⟨0, ![]⟩

class Facts : Prop where
  bcast_S_S1x200x128x128 : S_.BroadcastsInDim S1x200x128x128 (![] : Fin 0 → Fin S1x200x128x128.rank)
  reducesTo_S1x200x128x128_S_d0_1_2_3 : S1x200x128x128.ReducesTo [0, 1, 2, 3] S_
  h_S_ : 0 < S_.numel
  bcast_S_S100 : S_.BroadcastsInDim S100 (![] : Fin 0 → Fin S100.rank)
  reducesTo_S100_S_d0 : S100.ReducesTo [0] S_

variable [Facts]

def fn {F : FTy → Type} [FloatOps F] (main_arg0 : FVec F S1x200x128x128 .f32) (main_arg1 : IVec S100 32) (main_arg2 : FVec F S100x1x128 .f32) : IVec S_ 1 :=
  let main_v0 : FVec F S1x200x128x128 .f32 := Host.absf main_arg0
  let main_cst : FVec F S_ .f32 := constant S_ .f32 0x7F800000#32
  let main_v1 : FVec F S1x200x128x128 .f32 := broadcastInDim S1x200x128x128 ![] bcast_S_S1x200x128x128 main_cst
  let main_v2 : IVec S1x200x128x128 1 := cmpf .olt main_v0 main_v1
  let main_c : IVec S_ 1 := constantI S_ 1 1#1
  let main_v3 : IVec S_ 1 := (fun x v => Host.reduce IntOp.andi x v reducesTo_S1x200x128x128_S_d0_1_2_3 h_S_) main_v2 main_c
  let main_c_0 : IVec S_ 32 := constantI S_ 32 0#32
  let main_v4 : IVec S100 32 := broadcastInDim S100 ![] bcast_S_S100 main_c_0
  let main_v5 : IVec S100 1 := cmpi .sge main_arg1 main_v4
  let main_c_1 : IVec S_ 32 := constantI S_ 32 200#32
  let main_v6 : IVec S100 32 := broadcastInDim S100 ![] bcast_S_S100 main_c_1
  let main_v7 : IVec S100 1 := cmpi .slt main_arg1 main_v6
  let main_v8 : IVec S100 1 := andi main_v5 main_v7
  let main_c_2 : IVec S_ 1 := constantI S_ 1 1#1
  let main_v9 : IVec S_ 1 := (fun x v => Host.reduce IntOp.andi x v reducesTo_S100_S_d0 h_S_) main_v8 main_c_2
  let main_v10 : IVec S_ 1 := andi main_v3 main_v9
  main_v10
-- ==== Masks.lean ====
abbrev S1x200x128x128 : Shape := ⟨4, ![1, 200, 128, 128]⟩
abbrev S100 : Shape := ⟨1, ![100]⟩
abbrev S100x1x128 : Shape := ⟨3, ![100, 1, 128]⟩
abbrev S512x128 : Shape := ⟨2, ![512, 128]⟩
abbrev S128x512 : Shape := ⟨2, ![128, 512]⟩
abbrev S200x128x128 : Shape := ⟨3, ![200, 128, 128]⟩
abbrev S100x512x512 : Shape := ⟨3, ![100, 512, 512]⟩
abbrev S1x128x128 : Shape := ⟨3, ![1, 128, 128]⟩
abbrev S1 : Shape := ⟨1, ![1]⟩
abbrev S10x1x128 : Shape := ⟨3, ![10, 1, 128]⟩
abbrev S10x512x512 : Shape := ⟨3, ![10, 512, 512]⟩
abbrev S128x128 : Shape := ⟨2, ![128, 128]⟩
abbrev S512x512 : Shape := ⟨2, ![512, 512]⟩
abbrev S1x512x512 : Shape := ⟨3, ![1, 512, 512]⟩
abbrev S1x1x1 : Shape := ⟨3, ![1, 1, 1]⟩
abbrev S1x1x128 : Shape := ⟨3, ![1, 1, 128]⟩
abbrev S128 : Shape := ⟨1, ![128]⟩
abbrev S_ : Shape := ⟨0, ![]⟩
abbrev S100x1x1 : Shape := ⟨3, ![100, 1, 1]⟩

abbrev nBuf : Space → Nat
  | .hbm => 13
  | .vmem => 28
  | .smem => 1
  | _ => 0

abbrev bufTy : (tb : Table) → Fin (tcTables nBuf tb) → BufTy
  | .hbm, ⟨0, _⟩ => ⟨S1x200x128x128, .f32⟩
  | .hbm, ⟨1, _⟩ => ⟨S100x1x128, .f32⟩
  | .hbm, ⟨2, _⟩ => ⟨S512x128, .bf16⟩
  | .hbm, ⟨3, _⟩ => ⟨S128x512, .bf16⟩
  | .hbm, ⟨4, _⟩ => ⟨S200x128x128, .f32⟩
  | .hbm, ⟨5, _⟩ => ⟨S100x512x512, .i32⟩
  | .hbm, ⟨6, _⟩ => ⟨S100x1x128, .f32⟩
  | .hbm, ⟨7, _⟩ => ⟨S_, .i32⟩
  | .hbm, ⟨8, _⟩ => ⟨S100x512x512, .i32⟩
  | .hbm, ⟨9, _⟩ => ⟨S100x512x512, .i1⟩
  | .hbm, ⟨10, _⟩ => ⟨S100x512x512, .i1⟩
  | .hbm, ⟨11, _⟩ => ⟨S100x1x1, .f32⟩
  | .hbm, ⟨12, _⟩ => ⟨S100, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S512x128, .bf16⟩
  | .local _ .vmem, ⟨21, _⟩ => ⟨S128x512, .bf16⟩
  | .local _ .vmem, ⟨22, _⟩ => ⟨S10x1x128, .f32⟩
  | .local _ .vmem, ⟨23, _⟩ => ⟨S10x1x128, .f32⟩
  | .local _ .vmem, ⟨24, _⟩ => ⟨S10x512x512, .i32⟩
  | .local _ .vmem, ⟨25, _⟩ => ⟨S10x512x512, .i32⟩
  | .local _ .vmem, ⟨26, _⟩ => ⟨S10x1x128, .f32⟩
  | .local _ .vmem, ⟨27, _⟩ => ⟨S10x1x128, .f32⟩
  | .local _ .smem, ⟨0, _⟩ => ⟨S100, .i32⟩
  | _, _ => ⟨S1x200x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![10], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c10_i32 : BitVec 32 := 10#32
  let arg0 : BitVec 32 := BitVec.ofNat 32 (i 0).val
  let v0 : BitVec 32 := Scalar.muli c10_i32 arg0
  let v1 : BitVec 32 := Scalar.addi v0 c0_i32
  let v2 : Index := Scalar.indexCast v1
  ![v2.toNat]
def cc0_transform_0 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c0_i32 : BitVec 32 := 0#32
  let v1 : BitVec 32 := Scalar.addi v0 c0_i32
  let v2 : Index := Scalar.indexCast v1
  let v3 : BitVec 32 := pf.at 0 (Rect.unit (s := S100) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c1_i32 : BitVec 32 := 1#32
  let v1 : BitVec 32 := Scalar.addi v0 c1_i32
  let v2 : Index := Scalar.indexCast v1
  let v3 : BitVec 32 := pf.at 0 (Rect.unit (s := S100) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c2_i32 : BitVec 32 := 2#32
  let v1 : BitVec 32 := Scalar.addi v0 c2_i32
  let v2 : Index := Scalar.indexCast v1
  let v3 : BitVec 32 := pf.at 0 (Rect.unit (s := S100) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c3_i32 : BitVec 32 := 3#32
  let v1 : BitVec 32 := Scalar.addi v0 c3_i32
  let v2 : Index := Scalar.indexCast v1
  let v3 : BitVec 32 := pf.at 0 (Rect.unit (s := S100) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c4_i32 : BitVec 32 := 4#32
  let v1 : BitVec 32 := Scalar.addi v0 c4_i32
  let v2 : Index := Scalar.indexCast v1
  let v3 : BitVec 32 := pf.at 0 (Rect.unit (s := S100) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c5_i32 : BitVec 32 := 5#32
  let v1 : BitVec 32 := Scalar.addi v0 c5_i32
  let v2 : Index := Scalar.indexCast v1
  let v3 : BitVec 32 := pf.at 0 (Rect.unit (s := S100) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c6_i32 : BitVec 32 := 6#32
  let v1 : BitVec 32 := Scalar.addi v0 c6_i32
  let v2 : Index := Scalar.indexCast v1
  let v3 : BitVec 32 := pf.at 0 (Rect.unit (s := S100) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c7_i32 : BitVec 32 := 7#32
  let v1 : BitVec 32 := Scalar.addi v0 c7_i32
  let v2 : Index := Scalar.indexCast v1
  let v3 : BitVec 32 := pf.at 0 (Rect.unit (s := S100) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c8_i32 : BitVec 32 := 8#32
  let v1 : BitVec 32 := Scalar.addi v0 c8_i32
  let v2 : Index := Scalar.indexCast v1
  let v3 : BitVec 32 := pf.at 0 (Rect.unit (s := S100) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 10), ∀ a, (k0_off1 i (BitVec.ofNat 32 r.val)) a + S1.size a ≤ S100.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli c10_i32 arg0
  let c9_i32 : BitVec 32 := 9#32
  let v1 : BitVec 32 := Scalar.addi v0 c9_i32
  let v2 : Index := Scalar.indexCast v1
  let v3 : BitVec 32 := pf.at 0 (Rect.unit (s := S100) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S10x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S10x512x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S10x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MasksReferenceIdeal.lean ====
abbrev S1x200x128x128 : Shape := ⟨4, ![1, 200, 128, 128]⟩
abbrev S100 : Shape := ⟨1, ![100]⟩
abbrev S100x1x128 : Shape := ⟨3, ![100, 1, 128]⟩
abbrev S100x1x1 : Shape := ⟨3, ![100, 1, 1]⟩
abbrev S200x128x128 : Shape := ⟨3, ![200, 128, 128]⟩
abbrev S_ : Shape := ⟨0, ![]⟩
abbrev S100x1 : Shape := ⟨2, ![100, 1]⟩
abbrev S1 : Shape := ⟨1, ![1]⟩
abbrev S1x1 : Shape := ⟨2, ![1, 1]⟩
abbrev S100x128x128 : Shape := ⟨3, ![100, 128, 128]⟩
abbrev S512 : Shape := ⟨1, ![512]⟩
abbrev S128 : Shape := ⟨1, ![128]⟩
abbrev S1x512 : Shape := ⟨2, ![1, 512]⟩
abbrev S128x1 : Shape := ⟨2, ![128, 1]⟩
abbrev S128x512 : Shape := ⟨2, ![128, 512]⟩
abbrev S100x128x512 : Shape := ⟨3, ![100, 128, 512]⟩
abbrev S100x512x128 : Shape := ⟨3, ![100, 512, 128]⟩
abbrev S100x512x512 : Shape := ⟨3, ![100, 512, 512]⟩

abbrev nBuf : Space → Nat
  | .hbm => 192
  | .vmem => 0
  | .smem => 0
  | _ => 0

abbrev hbmTy0_0 (i : Nat) : BufTy := match i % 128 with
  | 0 => ⟨S1x200x128x128, .f32⟩
  | 1 => ⟨S100, .i32⟩
  | 2 => ⟨S100x1x128, .f32⟩
  | 3 => ⟨S100x1x1, .f32⟩
  | 4 => ⟨S100, .f32⟩
  | 5 => ⟨S200x128x128, .f32⟩
  | 6 => ⟨S_, .i32⟩
  | 7 => ⟨S100, .i32⟩
  | 8 => ⟨S100, .i1⟩
  | 9 => ⟨S_, .i32⟩
  | 10 => ⟨S100, .i32⟩
  | 11 => ⟨S100, .i32⟩
  | 12 => ⟨S100, .i32⟩
  | 13 => ⟨S100x1, .i32⟩
  | 14 => ⟨S1, .i32⟩
  | 15 => ⟨S_, .i32⟩
  | 16 => ⟨S100x1, .i32⟩
  | 17 => ⟨S100x1, .i1⟩
  | 18 => ⟨S1x1, .i32⟩
  | 19 => ⟨S100x1, .i32⟩
  | 20 => ⟨S100x1, .i1⟩
  | 21 => ⟨S100x1, .i1⟩
  | 22 => ⟨S_, .i1⟩
  | 23 => ⟨S100, .i1⟩
  | 24 => ⟨S100x128x128, .f32⟩
  | 25 => ⟨S100x128x128, .i1⟩
  | 26 => ⟨S_, .f32⟩
  | 27 => ⟨S100x128x128, .f32⟩
  | 28 => ⟨S100x128x128, .f32⟩
  | 29 => ⟨S100x128x128, .f32⟩
  | 30 => ⟨S_, .f32⟩
  | 31 => ⟨S_, .f32⟩
  | 32 => ⟨S_, .f32⟩
  | 33 => ⟨S512, .f32⟩
  | 34 => ⟨S_, .f32⟩
  | 35 => ⟨S512, .f32⟩
  | 36 => ⟨S512, .f32⟩
  | 37 => ⟨S_, .f32⟩
  | 38 => ⟨S512, .f32⟩
  | 39 => ⟨S512, .f32⟩
  | 40 => ⟨S_, .f32⟩
  | 41 => ⟨S512, .f32⟩
  | 42 => ⟨S512, .f32⟩
  | 43 => ⟨S_, .f32⟩
  | 44 => ⟨S512, .f32⟩
  | 45 => ⟨S512, .f32⟩
  | 46 => ⟨S128, .f32⟩
  | 47 => ⟨S1x512, .f32⟩
  | 48 => ⟨S128x1, .f32⟩
  | 49 => ⟨S128x512, .f32⟩
  | 50 => ⟨S128x512, .f32⟩
  | 51 => ⟨S128x512, .f32⟩
  | 52 => ⟨S128x512, .f32⟩
  | 53 => ⟨S_, .f32⟩
  | 54 => ⟨S128x512, .f32⟩
  | 55 => ⟨S128x512, .f32⟩
  | 56 => ⟨S128x512, .f32⟩
  | 57 => ⟨S_, .f32⟩
  | 58 => ⟨S128x512, .f32⟩
  | 59 => ⟨S128x512, .f32⟩
  | 60 => ⟨S_, .f32⟩
  | 61 => ⟨S128x512, .f32⟩
  | 62 => ⟨S128x512, .f32⟩
  | 63 => ⟨S_, .f32⟩
  | 64 => ⟨S512, .f32⟩
  | 65 => ⟨S1x512, .f32⟩
  | 66 => ⟨S1x512, .f32⟩
  | 67 => ⟨S_, .f32⟩
  | 68 => ⟨S1x512, .f32⟩
  | 69 => ⟨S1x512, .i1⟩
  | 70 => ⟨S_, .f32⟩
  | 71 => ⟨S1x512, .f32⟩
  | 72 => ⟨S1x512, .i1⟩
  | 73 => ⟨S_, .i32⟩
  | 74 => ⟨S_, .f32⟩
  | 75 => ⟨S1x512, .f32⟩
  | 76 => ⟨S1x512, .f32⟩
  | 77 => ⟨S128x512, .f32⟩
  | 78 => ⟨S128x512, .f32⟩
  | 79 => ⟨S_, .i32⟩
  | 80 => ⟨S_, .f32⟩
  | 81 => ⟨S128x512, .i1⟩
  | 82 => ⟨S128x512, .f32⟩
  | 83 => ⟨S128x512, .f32⟩
  | 84 => ⟨S_, .f32⟩
  | 85 => ⟨S512, .f32⟩
  | 86 => ⟨S512, .i1⟩
  | 87 => ⟨S_, .f32⟩
  | 88 => ⟨S512, .f32⟩
  | 89 => ⟨S512, .i1⟩
  | 90 => ⟨S512, .i1⟩
  | 91 => ⟨S1x512, .i1⟩
  | 92 => ⟨S_, .i32⟩
  | 93 => ⟨S_, .f32⟩
  | 94 => ⟨S128x512, .i1⟩
  | 95 => ⟨S128x512, .f32⟩
  | 96 => ⟨S128x512, .f32⟩
  | 97 => ⟨S100x128x512, .f32⟩
  | 98 => ⟨S100x512x128, .f32⟩
  | 99 => ⟨S_, .f32⟩
  | 100 => ⟨S_, .f32⟩
  | 101 => ⟨S_, .f32⟩
  | 102 => ⟨S512, .f32⟩
  | 103 => ⟨S_, .f32⟩
  | 104 => ⟨S512, .f32⟩
  | 105 => ⟨S512, .f32⟩
  | 106 => ⟨S_, .f32⟩
  | 107 => ⟨S512, .f32⟩
  | 108 => ⟨S512, .f32⟩
  | 109 => ⟨S_, .f32⟩
  | 110 => ⟨S512, .f32⟩
  | 111 => ⟨S512, .f32⟩
  | 112 => ⟨S_, .f32⟩
  | 113 => ⟨S512, .f32⟩
  | 114 => ⟨S512, .f32⟩
  | 115 => ⟨S128, .f32⟩
  | 116 => ⟨S1x512, .f32⟩
  | 117 => ⟨S128x1, .f32⟩
  | 118 => ⟨S128x512, .f32⟩
  | 119 => ⟨S128x512, .f32⟩
  | 120 => ⟨S128x512, .f32⟩
  | 121 => ⟨S128x512, .f32⟩
  | 122 => ⟨S_, .f32⟩
  | 123 => ⟨S128x512, .f32⟩
  | 124 => ⟨S128x512, .f32⟩
  | 125 => ⟨S128x512, .f32⟩
  | 126 => ⟨S_, .f32⟩
  | 127 => ⟨S128x512, .f32⟩
  | _ => ⟨S1x200x128x128, .f32⟩

abbrev hbmTy0_1 (i : Nat) : BufTy := match i % 128 with
  | 0 => ⟨S128x512, .f32⟩
  | 1 => ⟨S_, .f32⟩
  | 2 => ⟨S128x512, .f32⟩
  | 3 => ⟨S128x512, .f32⟩
  | 4 => ⟨S_, .f32⟩
  | 5 => ⟨S512, .f32⟩
  | 6 => ⟨S1x512, .f32⟩
  | 7 => ⟨S1x512, .f32⟩
  | 8 => ⟨S_, .f32⟩
  | 9 => ⟨S1x512, .f32⟩
  | 10 => ⟨S1x512, .i1⟩
  | 11 => ⟨S_, .f32⟩
  | 12 => ⟨S1x512, .f32⟩
  | 13 => ⟨S1x512, .i1⟩
  | 14 => ⟨S_, .i32⟩
  | 15 => ⟨S_, .f32⟩
  | 16 => ⟨S1x512, .f32⟩
  | 17 => ⟨S1x512, .f32⟩
  | 18 => ⟨S128x512, .f32⟩
  | 19 => ⟨S128x512, .f32⟩
  | 20 => ⟨S_, .i32⟩
  | 21 => ⟨S_, .f32⟩
  | 22 => ⟨S128x512, .i1⟩
  | 23 => ⟨S128x512, .f32⟩
  | 24 => ⟨S128x512, .f32⟩
  | 25 => ⟨S_, .f32⟩
  | 26 => ⟨S512, .f32⟩
  | 27 => ⟨S512, .i1⟩
  | 28 => ⟨S_, .f32⟩
  | 29 => ⟨S512, .f32⟩
  | 30 => ⟨S512, .i1⟩
  | 31 => ⟨S512, .i1⟩
  | 32 => ⟨S1x512, .i1⟩
  | 33 => ⟨S_, .i32⟩
  | 34 => ⟨S_, .f32⟩
  | 35 => ⟨S128x512, .i1⟩
  | 36 => ⟨S128x512, .f32⟩
  | 37 => ⟨S128x512, .f32⟩
  | 38 => ⟨S100x512x512, .f32⟩
  | 39 => ⟨S100x512x512, .f32⟩
  | 40 => ⟨S100x512x512, .f32⟩
  | 41 => ⟨S_, .f32⟩
  | 42 => ⟨S100x512x512, .f32⟩
  | 43 => ⟨S100x512x512, .f32⟩
  | 44 => ⟨S_, .f32⟩
  | 45 => ⟨S100x512x512, .f32⟩
  | 46 => ⟨S100x512x512, .f32⟩
  | 47 => ⟨S_, .f32⟩
  | 48 => ⟨S100x512x512, .f32⟩
  | 49 => ⟨S100x512x512, .i1⟩
  | 50 => ⟨S100x512x512, .f32⟩
  | 51 => ⟨S100x512x512, .f32⟩
  | 52 => ⟨S_, .f32⟩
  | 53 => ⟨S100, .f32⟩
  | 54 => ⟨S_, .f32⟩
  | 55 => ⟨S100, .f32⟩
  | 56 => ⟨S_, .f32⟩
  | 57 => ⟨S100, .f32⟩
  | 58 => ⟨S100, .f32⟩
  | 59 => ⟨S100, .f32⟩
  | 60 => ⟨S100, .f32⟩
  | 61 => ⟨S_, .f32⟩
  | 62 => ⟨S100x512x512, .f32⟩
  | 63 => ⟨S100x512x512, .i1⟩
  | _ => ⟨S1x200x128x128, .f32⟩

abbrev hbmTy (i : Nat) : BufTy := match i / 128 with
  | 0 => hbmTy0_0 i
  | 1 => hbmTy0_1 i
  | _ => ⟨S1x200x128x128, .f32⟩

abbrev bufTy : (tb : Table) → Fin (tcTables nBuf tb) → BufTy
  | .hbm, ⟨i, _⟩ => hbmTy i
  | _, _ => ⟨S1x200x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_v4 : Ref sig .tc := ⟨.hbm, 29, rfl⟩
abbrev main_call1_cst : Ref sig .tc := ⟨.hbm, 30, rfl⟩
abbrev main_call1_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_cst_1 : Ref sig .tc := ⟨.hbm, 34, rfl⟩
abbrev main_call1_v2 : Ref sig .tc := ⟨.hbm, 35, rfl⟩
abbrev main_call1_v3 : Ref sig .tc := ⟨.hbm, 36, rfl⟩
abbrev main_call1_cst_2 : Ref sig .tc := ⟨.hbm, 37, rfl⟩
abbrev main_call1_v4 : Ref sig .tc := ⟨.hbm, 38, rfl⟩
abbrev main_call1_v5 : Ref sig .tc := ⟨.hbm, 39, rfl⟩
abbrev main_call1_cst_3 : Ref sig .tc := ⟨.hbm, 40, rfl⟩
abbrev main_call1_v6 : Ref sig .tc := ⟨.hbm, 41, rfl⟩
abbrev main_call1_v7 : Ref sig .tc := ⟨.hbm, 42, rfl⟩
abbrev main_call1_cst_4 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_v15 : Ref sig .tc := ⟨.hbm, 51, rfl⟩
abbrev main_call1_v16 : Ref sig .tc := ⟨.hbm, 52, rfl⟩
abbrev main_call1_v17 : Ref sig .tc := ⟨.hbm, 53, rfl⟩
abbrev main_call1_v18 : Ref sig .tc := ⟨.hbm, 54, rfl⟩
abbrev main_call1_v19 : Ref sig .tc := ⟨.hbm, 55, rfl⟩
abbrev main_call1_v20 : Ref sig .tc := ⟨.hbm, 56, rfl⟩
abbrev main_call1_cst_5 : Ref sig .tc := ⟨.hbm, 57, rfl⟩
abbrev main_call1_v21 : Ref sig .tc := ⟨.hbm, 58, rfl⟩
abbrev main_call1_v22 : Ref sig .tc := ⟨.hbm, 59, rfl⟩
abbrev main_call1_cst_6 : Ref sig .tc := ⟨.hbm, 60, rfl⟩
abbrev main_call1_v23 : Ref sig .tc := ⟨.hbm, 61, rfl⟩
abbrev main_call1_v24 : Ref sig .tc := ⟨.hbm, 62, rfl⟩
abbrev main_call1_cst_7 : Ref sig .tc := ⟨.hbm, 63, rfl⟩
abbrev main_call1_v25 : Ref sig .tc := ⟨.hbm, 64, rfl⟩
abbrev main_call1_v26 : Ref sig .tc := ⟨.hbm, 65, rfl⟩
abbrev main_call1_v27 : Ref sig .tc := ⟨.hbm, 66, rfl⟩
abbrev main_call1_cst_8 : Ref sig .tc := ⟨.hbm, 67, rfl⟩
abbrev main_call1_v28 : Ref sig .tc := ⟨.hbm, 68, rfl⟩
abbrev main_call1_v29 : Ref sig .tc := ⟨.hbm, 69, rfl⟩
abbrev main_call1_cst_9 : Ref sig .tc := ⟨.hbm, 70, rfl⟩
abbrev main_call1_v30 : Ref sig .tc := ⟨.hbm, 71, rfl⟩
abbrev main_call1_v31 : Ref sig .tc := ⟨.hbm, 72, rfl⟩
abbrev main_call1_c : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_v32 : Ref sig .tc := ⟨.hbm, 76, rfl⟩
abbrev main_call1_v33 : Ref sig .tc := ⟨.hbm, 77, rfl⟩
abbrev main_call1_v34 : Ref sig .tc := ⟨.hbm, 78, rfl⟩
abbrev main_call1_c_10 : Ref sig .tc := ⟨.hbm, 79, rfl⟩
abbrev main_call1_call1_v0 : Ref sig .tc := ⟨.hbm, 80, rfl⟩
abbrev main_call1_call1_v1 : Ref sig .tc := ⟨.hbm, 81, rfl⟩
abbrev main_call1_call1_v2 : Ref sig .tc := ⟨.hbm, 82, rfl⟩
abbrev main_call1_v35 : Ref sig .tc := ⟨.hbm, 83, rfl⟩
abbrev main_call1_cst_11 : Ref sig .tc := ⟨.hbm, 84, rfl⟩
abbrev main_call1_v36 : Ref sig .tc := ⟨.hbm, 85, rfl⟩
abbrev main_call1_v37 : Ref sig .tc := ⟨.hbm, 86, rfl⟩
abbrev main_call1_cst_12 : Ref sig .tc := ⟨.hbm, 87, rfl⟩
abbrev main_call1_v38 : Ref sig .tc := ⟨.hbm, 88, rfl⟩
abbrev main_call1_v39 : Ref sig .tc := ⟨.hbm, 89, rfl⟩
abbrev main_call1_v40 : Ref sig .tc := ⟨.hbm, 90, rfl⟩
abbrev main_call1_v41 : Ref sig .tc := ⟨.hbm, 91, rfl⟩
abbrev main_call1_c_13 : Ref sig .tc := ⟨.hbm, 92, rfl⟩
abbrev main_call1_call2_v0 : Ref sig .tc := ⟨.hbm, 93, rfl⟩
abbrev main_call1_call2_v1 : Ref sig .tc := ⟨.hbm, 94, rfl⟩
abbrev main_call1_call2_v2 : Ref sig .tc := ⟨.hbm, 95, rfl⟩
abbrev main_call1_v42 : Ref sig .tc := ⟨.hbm, 96, rfl⟩
abbrev main_v5 : Ref sig .tc := ⟨.hbm, 97, rfl⟩
abbrev main_v6 : Ref sig .tc := ⟨.hbm, 98, rfl⟩
abbrev main_call2_cst : Ref sig .tc := ⟨.hbm, 99, rfl⟩
abbrev main_call2_cst_0 : Ref sig .tc := ⟨.hbm, 100, rfl⟩
abbrev main_call2_v0 : Ref sig .tc := ⟨.hbm, 101, rfl⟩
abbrev main_call2_v1 : Ref sig .tc := ⟨.hbm, 102, rfl⟩
abbrev main_call2_cst_1 : Ref sig .tc := ⟨.hbm, 103, rfl⟩
abbrev main_call2_v2 : Ref sig .tc := ⟨.hbm, 104, rfl⟩
abbrev main_call2_v3 : Ref sig .tc := ⟨.hbm, 105, rfl⟩
abbrev main_call2_cst_2 : Ref sig .tc := ⟨.hbm, 106, rfl⟩
abbrev main_call2_v4 : Ref sig .tc := ⟨.hbm, 107, rfl⟩
abbrev main_call2_v5 : Ref sig .tc := ⟨.hbm, 108, rfl⟩
abbrev main_call2_cst_3 : Ref sig .tc := ⟨.hbm, 109, rfl⟩
abbrev main_call2_v6 : Ref sig .tc := ⟨.hbm, 110, rfl⟩
abbrev main_call2_v7 : Ref sig .tc := ⟨.hbm, 111, rfl⟩
abbrev main_call2_cst_4 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_v15 : Ref sig .tc := ⟨.hbm, 120, rfl⟩
abbrev main_call2_v16 : Ref sig .tc := ⟨.hbm, 121, rfl⟩
abbrev main_call2_v17 : Ref sig .tc := ⟨.hbm, 122, rfl⟩
abbrev main_call2_v18 : Ref sig .tc := ⟨.hbm, 123, rfl⟩
abbrev main_call2_v19 : Ref sig .tc := ⟨.hbm, 124, rfl⟩
abbrev main_call2_v20 : Ref sig .tc := ⟨.hbm, 125, rfl⟩
abbrev main_call2_cst_5 : Ref sig .tc := ⟨.hbm, 126, rfl⟩
abbrev main_call2_v21 : Ref sig .tc := ⟨.hbm, 127, rfl⟩
abbrev main_call2_v22 : Ref sig .tc := ⟨.hbm, 128, rfl⟩
abbrev main_call2_cst_6 : Ref sig .tc := ⟨.hbm, 129, rfl⟩
abbrev main_call2_v23 : Ref sig .tc := ⟨.hbm, 130, rfl⟩
abbrev main_call2_v24 : Ref sig .tc := ⟨.hbm, 131, rfl⟩
abbrev main_call2_cst_7 : Ref sig .tc := ⟨.hbm, 132, rfl⟩
abbrev main_call2_v25 : Ref sig .tc := ⟨.hbm, 133, rfl⟩
abbrev main_call2_v26 : Ref sig .tc := ⟨.hbm, 134, rfl⟩
abbrev main_call2_v27 : Ref sig .tc := ⟨.hbm, 135, rfl⟩
abbrev main_call2_cst_8 : Ref sig .tc := ⟨.hbm, 136, rfl⟩
abbrev main_call2_v28 : Ref sig .tc := ⟨.hbm, 137, rfl⟩
abbrev main_call2_v29 : Ref sig .tc := ⟨.hbm, 138, rfl⟩
abbrev main_call2_cst_9 : Ref sig .tc := ⟨.hbm, 139, rfl⟩
abbrev main_call2_v30 : Ref sig .tc := ⟨.hbm, 140, rfl⟩
abbrev main_call2_v31 : Ref sig .tc := ⟨.hbm, 141, rfl⟩
abbrev main_call2_c : Ref sig .tc := ⟨.hbm, 142, rfl⟩
abbrev main_call2_call0_v0 : Ref sig .tc := ⟨.hbm, 143, rfl⟩
abbrev main_call2_call0_v1 : Ref sig .tc := ⟨.hbm, 144, rfl⟩
abbrev main_call2_v32 : Ref sig .tc := ⟨.hbm, 145, rfl⟩
abbrev main_call2_v33 : Ref sig .tc := ⟨.hbm, 146, rfl⟩
abbrev main_call2_v34 : Ref sig .tc := ⟨.hbm, 147, rfl⟩
abbrev main_call2_c_10 : Ref sig .tc := ⟨.hbm, 148, rfl⟩
abbrev main_call2_call1_v0 : Ref sig .tc := ⟨.hbm, 149, rfl⟩
abbrev main_call2_call1_v1 : Ref sig .tc := ⟨.hbm, 150, rfl⟩
abbrev main_call2_call1_v2 : Ref sig .tc := ⟨.hbm, 151, rfl⟩
abbrev main_call2_v35 : Ref sig .tc := ⟨.hbm, 152, rfl⟩
abbrev main_call2_cst_11 : Ref sig .tc := ⟨.hbm, 153, rfl⟩
abbrev main_call2_v36 : Ref sig .tc := ⟨.hbm, 154, rfl⟩
abbrev main_call2_v37 : Ref sig .tc := ⟨.hbm, 155, rfl⟩
abbrev main_call2_cst_12 : Ref sig .tc := ⟨.hbm, 156, rfl⟩
abbrev main_call2_v38 : Ref sig .tc := ⟨.hbm, 157, rfl⟩
abbrev main_call2_v39 : Ref sig .tc := ⟨.hbm, 158, rfl⟩
abbrev main_call2_v40 : Ref sig .tc := ⟨.hbm, 159, rfl⟩
abbrev main_call2_v41 : Ref sig .tc := ⟨.hbm, 160, rfl⟩
abbrev main_call2_c_13 : Ref sig .tc := ⟨.hbm, 161, rfl⟩
abbrev main_call2_call2_v0 : Ref sig .tc := ⟨.hbm, 162, rfl⟩
abbrev main_call2_call2_v1 : Ref sig .tc := ⟨.hbm, 163, rfl⟩
abbrev main_call2_call2_v2 : Ref sig .tc := ⟨.hbm, 164, rfl⟩
abbrev main_call2_v42 : Ref sig .tc := ⟨.hbm, 165, rfl⟩
abbrev main_v7 : Ref sig .tc := ⟨.hbm, 166, rfl⟩
abbrev main_v8 : Ref sig .tc := ⟨.hbm, 167, rfl⟩
abbrev main_v9 : Ref sig .tc := ⟨.hbm, 168, rfl⟩
abbrev main_cst : Ref sig .tc := ⟨.hbm, 169, rfl⟩
abbrev main_v10 : Ref sig .tc := ⟨.hbm, 170, rfl⟩
abbrev main_v11 : Ref sig .tc := ⟨.hbm, 171, rfl⟩
abbrev main_cst_0 : Ref sig .tc := ⟨.hbm, 172, rfl⟩
abbrev main_v12 : Ref sig .tc := ⟨.hbm, 173, rfl⟩
abbrev main_v13 : Ref sig .tc := ⟨.hbm, 174, rfl⟩
abbrev main_cst_1 : Ref sig .tc := ⟨.hbm, 175, rfl⟩
abbrev main_v14 : Ref sig .tc := ⟨.hbm, 176, rfl⟩
abbrev main_v15 : Ref sig .tc := ⟨.hbm, 177, rfl⟩
abbrev main_v16 : Ref sig .tc := ⟨.hbm, 178, rfl⟩
abbrev main_v17 : Ref sig .tc := ⟨.hbm, 179, rfl⟩
abbrev main_cst_2 : Ref sig .tc := ⟨.hbm, 180, rfl⟩
abbrev main_v18 : Ref sig .tc := ⟨.hbm, 181, rfl⟩
abbrev main_cst_3 : Ref sig .tc := ⟨.hbm, 182, rfl⟩
abbrev main_v19 : Ref sig .tc := ⟨.hbm, 183, rfl⟩
abbrev main_cst_4 : Ref sig .tc := ⟨.hbm, 184, rfl⟩
abbrev main_v20 : Ref sig .tc := ⟨.hbm, 185, rfl⟩
abbrev main_v21 : Ref sig .tc := ⟨.hbm, 186, rfl⟩
abbrev main_v22 : Ref sig .tc := ⟨.hbm, 187, rfl⟩
abbrev main_v23 : Ref sig .tc := ⟨.hbm, 188, rfl⟩
abbrev main_cst_5 : Ref sig .tc := ⟨.hbm, 189, rfl⟩
abbrev main_v24 : Ref sig .tc := ⟨.hbm, 190, rfl⟩
abbrev main_v25 : Ref sig .tc := ⟨.hbm, 191, rfl⟩

abbrev nD : Nat := 1
abbrev τ : Topo := Topo.v7x

variable {F : FTy → Type} [FloatOps F]
-- ==== TopKIdeal.lean ====
abbrev S1x200x134 : Shape := ⟨3, ![1, 200, 134]⟩
abbrev S200x134 : Shape := ⟨2, ![200, 134]⟩
abbrev S100x1x128 : Shape := ⟨3, ![100, 1, 128]⟩
abbrev S100 : Shape := ⟨1, ![100]⟩
abbrev S200 : Shape := ⟨1, ![200]⟩
abbrev S200x1 : Shape := ⟨2, ![200, 1]⟩
abbrev S56 : Shape := ⟨1, ![56]⟩
abbrev S256 : Shape := ⟨1, ![256]⟩
abbrev S2x128 : Shape := ⟨2, ![2, 128]⟩
abbrev S1x134 : Shape := ⟨2, ![1, 134]⟩
abbrev S2 : Shape := ⟨1, ![2]⟩
abbrev S2x1 : Shape := ⟨2, ![2, 1]⟩
abbrev S1 : Shape := ⟨1, ![1]⟩
abbrev S1x1 : Shape := ⟨2, ![1, 1]⟩
abbrev S1x1x1 : Shape := ⟨3, ![1, 1, 1]⟩
abbrev S1x1x128 : Shape := ⟨3, ![1, 1, 128]⟩

abbrev nBuf : Space → Nat
  | .hbm => 5
  | .vmem => 3
  | .smem => 2
  | _ => 0

abbrev bufTy : (tb : Table) → Fin (tcTables nBuf tb) → BufTy
  | .hbm, ⟨0, _⟩ => ⟨S1x200x134, .f32⟩
  | .hbm, ⟨1, _⟩ => ⟨S200x134, .f32⟩
  | .hbm, ⟨2, _⟩ => ⟨S100x1x128, .f32⟩
  | .hbm, ⟨3, _⟩ => ⟨S100, .i32⟩
  | .hbm, ⟨4, _⟩ => ⟨S100, .i32⟩
  | .local _ .vmem, ⟨0, _⟩ => ⟨S200x134, .f32⟩
  | .local _ .vmem, ⟨1, _⟩ => ⟨S100x1x128, .f32⟩
  | .local _ .vmem, ⟨2, _⟩ => ⟨S200x134, .f32⟩
  | .local _ .smem, ⟨0, _⟩ => ⟨S100, .i32⟩
  | .local _ .smem, ⟨1, _⟩ => ⟨S100, .i32⟩
  | _, _ => ⟨S1x200x134, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v38 : BitVec 32 := Scalar.addi c0_i32 c100_i32
  let c1_i32 : BitVec 32 := 1#32
  ⟨c0_i32, v38, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v62 : Index := Scalar.indexCast arg5
  let c0_18 : Index := 0#32
  let c0_19 : Index := 0#32
  ![v62.toNat, 0, 0]
def k0_off2 (k0_t1 : Fin k0_t1_loop.trips) : Fin 1 → Nat :=
  let c0_i32 : BitVec 32 := 0#32
  let c1_i32 : BitVec 32 := 1#32
  let arg5 : BitVec 32 := Scf.iv c0_i32 c1_i32 k0_t1
  let v65 : Index := Scalar.indexCast arg5
  ![v65.toNat]
def k0_off3 (v70 : BitVec 32) : Fin 2 → Nat :=
  let v71 : Index := Scalar.indexCast v70
  let c0_20 : Index := 0#32
  ![v71.toNat, 0]

def k0_chk1 (v70 : BitVec 32) : Prop :=
  (∀ a, (k0_off3 v70) a + S1x134.size a ≤ S200x134.size a)
theorem k0_off3_inb : ∀ (v70 : BitVec 32) (k0_hw1 : k0_chk1 v70), ∀ a, (k0_off3 v70) a + S1x134.size a ≤ S200x134.size a := fun v70 k0_hw1 => k0_hw1

abbrev stage0_0 : Fin 1 → Memref sig .tc .vmem S200x134 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S100 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S100 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== TopKReferenceIdeal.lean ====
abbrev S1x200x134 : Shape := ⟨3, ![1, 200, 134]⟩
abbrev S200x134 : Shape := ⟨2, ![200, 134]⟩
abbrev S_ : Shape := ⟨0, ![]⟩
abbrev S200 : Shape := ⟨1, ![200]⟩
abbrev S200x1 : Shape := ⟨2, ![200, 1]⟩
abbrev S200x133 : Shape := ⟨2, ![200, 133]⟩
abbrev S26600 : Shape := ⟨1, ![26600]⟩
abbrev S100 : Shape := ⟨1, ![100]⟩
abbrev S100x1x1 : Shape := ⟨3, ![100, 1, 1]⟩
abbrev S100x1x128 : Shape := ⟨3, ![100, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S1x200x134, .f32⟩
  | .hbm, ⟨1, _⟩ => ⟨S200x134, .f32⟩
  | .hbm, ⟨2, _⟩ => ⟨S_, .f32⟩
  | .hbm, ⟨3, _⟩ => ⟨S200, .f32⟩
  | .hbm, ⟨4, _⟩ => ⟨S_, .f32⟩
  | .hbm, ⟨5, _⟩ => ⟨S200, .f32⟩
  | .hbm, ⟨6, _⟩ => ⟨S200, .f32⟩
  | .hbm, ⟨7, _⟩ => ⟨S200x1, .f32⟩
  | .hbm, ⟨8, _⟩ => ⟨S200x134, .f32⟩
  | .hbm, ⟨9, _⟩ => ⟨S200x134, .f32⟩
  | .hbm, ⟨10, _⟩ => ⟨S200x134, .f32⟩
  | .hbm, ⟨11, _⟩ => ⟨S_, .f32⟩
  | .hbm, ⟨12, _⟩ => ⟨S200, .f32⟩
  | .hbm, ⟨13, _⟩ => ⟨S200x1, .f32⟩
  | .hbm, ⟨14, _⟩ => ⟨S200x134, .f32⟩
  | .hbm, ⟨15, _⟩ => ⟨S200x134, .f32⟩
  | .hbm, ⟨16, _⟩ => ⟨S200x133, .f32⟩
  | .hbm, ⟨17, _⟩ => ⟨S26600, .f32⟩
  | .hbm, ⟨18, _⟩ => ⟨S100, .f32⟩
  | .hbm, ⟨19, _⟩ => ⟨S100, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S100, .i32⟩
  | .hbm, ⟨27, _⟩ => ⟨S100, .i32⟩
  | .hbm, ⟨28, _⟩ => ⟨S_, .i32⟩
  | .hbm, ⟨29, _⟩ => ⟨S100, .i32⟩
  | .hbm, ⟨30, _⟩ => ⟨S100, .i1⟩
  | .hbm, ⟨31, _⟩ => ⟨S_, .i32⟩
  | .hbm, ⟨32, _⟩ => ⟨S100, .i32⟩
  | .hbm, ⟨33, _⟩ => ⟨S100, .i1⟩
  | .hbm, ⟨34, _⟩ => ⟨S_, .i32⟩
  | .hbm, ⟨35, _⟩ => ⟨S_, .i1⟩
  | .hbm, ⟨36, _⟩ => ⟨S100, .i1⟩
  | .hbm, ⟨37, _⟩ => ⟨S100, .i1⟩
  | .hbm, ⟨38, _⟩ => ⟨S100, .i1⟩
  | .hbm, ⟨39, _⟩ => ⟨S100, .i32⟩
  | .hbm, ⟨40, _⟩ => ⟨S100, .i32⟩
  | .hbm, ⟨41, _⟩ => ⟨S100, .i32⟩
  | .hbm, ⟨42, _⟩ => ⟨S_, .i32⟩
  | .hbm, ⟨43, _⟩ => ⟨S_, .i32⟩
  | .hbm, ⟨44, _⟩ => ⟨S100, .i32⟩
  | .hbm, ⟨45, _⟩ => ⟨S100, .i32⟩
  | .hbm, ⟨46, _⟩ => ⟨S100, .i32⟩
  | .hbm, ⟨47, _⟩ => ⟨S_, .i32⟩
  | .hbm, ⟨48, _⟩ => ⟨S100, .i32⟩
  | .hbm, ⟨49, _⟩ => ⟨S100, .i1⟩
  | .hbm, ⟨50, _⟩ => ⟨S100, .i32⟩
  | .hbm, ⟨51, _⟩ => ⟨S100, .i32⟩
  | .hbm, ⟨52, _⟩ => ⟨S_, .i32⟩
  | .hbm, ⟨53, _⟩ => ⟨S100, .i32⟩
  | .hbm, ⟨54, _⟩ => ⟨S100, .i1⟩
  | .hbm, ⟨55, _⟩ => ⟨S100, .i1⟩
  | .hbm, ⟨56, _⟩ => ⟨S_, .i32⟩
  | .hbm, ⟨57, _⟩ => ⟨S100, .i32⟩
  | .hbm, ⟨58, _⟩ => ⟨S100, .i32⟩
  | .hbm, ⟨59, _⟩ => ⟨S100, .i32⟩
  | .hbm, ⟨60, _⟩ => ⟨S100x1x1, .f32⟩
  | .hbm, ⟨61, _⟩ => ⟨S100x1x128, .f32⟩
  | _, _ => ⟨S1x200x134, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_values : Ref sig .tc := ⟨.hbm, 18, rfl⟩
abbrev main_indices : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v14 : Ref sig .tc := ⟨.hbm, 41, rfl⟩
abbrev main_c_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩

abbrev nD : Nat := 1
abbrev τ : Topo := Topo.v7x

variable {F : FTy → Type} [FloatOps F]
-- ==== Proof.MaskPre.lean ====
/-
  What the precondition says of the arguments: every mask value is a real number, and every query index is one of the
  two hundred rows; so every row block the kernel stages lies inside the array.
-/
module

public import proofs.«01_k».proof.Defs
public import proofs.«01_k».proof.Proof.Gen.Masks.Frame
public import proofs.«01_k».proof.Proof.Gen.MasksIdeal.Frame
public import proofs.«01_k».proof.Proof.Gen.Pre_in_range
public import Idealize.ShloMosaic.Lib.ReduceAll
public import Idealize.ShloMosaic.Lib.Pointwise

@[expose] public section

noncomputable section

namespace Cert.Resize

open Idealize.ShloMosaic Idealize.ShloMosaic.TcCoe

/-- Whether a word is a row number. -/
theorem range_of_bits (v : BitVec 32)
    (e : IntOp.andi (IntOp.cmpi .sge v 0#32) (IntOp.cmpi .slt v 200#32) = 1#1) : v.toNat < 200 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

section pre
open Cert.Pre_in_range
local instance : Cert.Pre_in_range.Facts := Cert.Pre_in_range.Gen.facts

instance : Subsingleton S_.Idx := ⟨fun a b => funext fun i => i.elim0⟩

variable {F : FTy → Type} [FloatOps F]

/-- The precondition's two halves. -/
theorem pre_halves (a0 : FVec F S1x200x128x128 .f32) (a1 : IVec S100 32) (a2 : FVec F S100x1x128 .f32)
    (h : fn a0 a1 a2 = fun _ => 1#1) :
    (∀ i, FloatOps.cmpf .olt (FloatOps.hostAbsf (a0 i)) (FloatOps.ofBits .f32 0x7F800000#32) = 1#1)
      ∧ ∀ i, (a1 i).toNat < 200 := by
  have e := congrFun h (fun a => a.elim0)
  simp only [fn, andi] at e
  obtain ⟨e1, e2⟩ := IntOp.andi_eq_one.1 e
  refine ⟨fun i => Host.reduce_andi_all _ _ _ _ _ e1 i, fun i => ?_⟩
  exact range_of_bits _ (Host.reduce_andi_all _ _ _ _ _ e2 i)

/-- At the ideal floats an entry whose magnitude is below the infinity is a real number. -/
theorem real_of_bits (x : EReal)
    (e : FloatOps.cmpf (F := Ideal) (φ := .f32) .olt (FloatOps.hostAbsf (F := Ideal) (φ := .f32) x) (FloatOps.ofBits .f32 0x7F800000#32) = 1#1) :
    ∃ r : ℝ, x = (r : EReal) := by
  have ht : Ideal.ofBits .f32 0x7F800000#32 = ⊤ := by simp [Ideal.ofBits, Ideal.ieee]
  have e' : BitVec.ofBool (decide (max x (-x) < Ideal.ofBits .f32 0x7F800000#32)) = 1#1 := e
  have ofBool_eq_one (p : Bool) : (BitVec.ofBool p = 1#1) ↔ p = true := by cases p <;> decide
  rw [ht, ofBool_eq_one, decide_eq_true_eq] at e'
  induction x with
  | coe r => exact ⟨r, rfl⟩
  | top => exact absurd e' (by simp)
  | bot => exact absurd e' (by simp)

theorem pre_reals (a0 : FVec Ideal S1x200x128x128 .f32) (a1 : IVec S100 32) (a2 : FVec Ideal S100x1x128 .f32)
    (h : fn a0 a1 a2 = fun _ => 1#1) :
    ∃ (X : Fin 200 → Fin 128 → Fin 128 → ℝ) (Q : Fin 100 → Fin 200),
      (∀ m a b, a0 (Idealize.ShloMosaic.ix4 0 m a b) = ((X m a b : ℝ) : EReal))
        ∧ ∀ k, a1 (Idealize.ShloMosaic.ix1 k) = BitVec.ofNat 32 (Q k).val := by
  obtain ⟨h0, h1⟩ := pre_halves a0 a1 a2 h
  choose r hr using fun i => real_of_bits (a0 i) (h0 i)
  exact ⟨fun m a b => r (Idealize.ShloMosaic.ix4 0 m a b), fun k => ⟨_, h1 (Idealize.ShloMosaic.ix1 k)⟩,
    fun m a b => hr _, fun k => by simp⟩

end pre

/-- A row block at a row below two hundred lies inside the array. -/
theorem block_inb (v : BitVec 32) (hv : v.toNat < 200) (a : Fin 3) :
    ((![v.toNat, (0#32).toNat, (0#32).toNat] : Fin 3 → Nat) a + 1) * Cert.MasksIdeal.S1x128x128.size a
      ≤ Cert.MasksIdeal.S200x128x128.size a := by
  fin_cases a
  · show (v.toNat + 1) * 1 ≤ 200; omega
  · show (0 + 1) * 128 ≤ 128; omega
  · show (0 + 1) * 128 ≤ 128; omega

theorem ok_masks (m : (ℓ : Loc Cert.Masks.nD Cert.Masks.τ Cert.Masks.sig) → Buf (Elt Bits) ℓ)
    (h : Cert.Pre_Masks m) : Cert.Masks.Gen.Ok m := by
  have ht : ∀ y, (Cert.Masks.Gen.tbl m 0 y).toNat < 200 := by
    intro y
    show (Cert.Masks.Gen.V m 0 Cert.Masks.main_arg1 y).toNat < 200
    rw [Cert.Masks.Gen.V_main_arg1]
    exact (pre_halves _ _ _ (h 0)).2 y
  exact ⟨fun i => ⟨block_inb _ (ht _), .inl rfl⟩, fun i => ⟨block_inb _ (ht _), .inl rfl⟩,
    fun i => ⟨block_inb _ (ht _), .inl rfl⟩, fun i => ⟨block_inb _ (ht _), .inl rfl⟩,
    fun i => ⟨block_inb _ (ht _), .inl rfl⟩, fun i => ⟨block_inb _ (ht _), .inl rfl⟩,
    fun i => ⟨block_inb _ (ht _), .inl rfl⟩, fun i => ⟨block_inb _ (ht _), .inl rfl⟩,
    fun i => ⟨block_inb _ (ht _), .inl rfl⟩, fun i => ⟨block_inb _ (ht _), .inl rfl⟩⟩

theorem ok_ideal (m : (ℓ : Loc Cert.MasksIdeal.nD Cert.MasksIdeal.τ Cert.MasksIdeal.sig) → Buf (Elt Ideal) ℓ)
    (h : Cert.Pre_MasksIdeal m) : Cert.MasksIdeal.Gen.Ok m := by
  have ht : ∀ y, (Cert.MasksIdeal.Gen.tbl m 0 y).toNat < 200 := by
    intro y
    show (Cert.MasksIdeal.Gen.V m 0 Cert.MasksIdeal.main_arg1 y).toNat < 200
    rw [Cert.MasksIdeal.Gen.V_main_arg1]
    exact (pre_halves _ _ _ (h 0)).2 y
  exact ⟨fun i => ⟨block_inb _ (ht _), .inl rfl⟩, fun i => ⟨block_inb _ (ht _), .inl rfl⟩,
    fun i => ⟨block_inb _ (ht _), .inl rfl⟩, fun i => ⟨block_inb _ (ht _), .inl rfl⟩,
    fun i => ⟨block_inb _ (ht _), .inl rfl⟩, fun i => ⟨block_inb _ (ht _), .inl rfl⟩,
    fun i => ⟨block_inb _ (ht _), .inl rfl⟩, fun i => ⟨block_inb _ (ht _), .inl rfl⟩,
    fun i => ⟨block_inb _ (ht _), .inl rfl⟩, fun i => ⟨block_inb _ (ht _), .inl rfl⟩⟩

end Cert.Resize

end
-- ==== Proof.Weights.lean ====
/-
  The weights of the bilinear resize from 128 to 512 samples, as exact eighths.

  Output sample `j` of 512 sits at `(j + 1/2)/4 - 1/2 = (2 j - 3)/8` on the input axis, input sample `i` weighs
  `max 0 (1 - |(2 j - 3)/8 - i|)` there, and a column of such tents is divided by its total. In eighths the tent is the
  natural number `tentN i j`, its column total is `totN j` (8 inside, 7 and 5 at the two ends), and the divided weight
  is `wN i j`, again a whole number of eighths from 0 to 8. The kernel reads the weights as bf16 words, the reference
  computes them in f32; both are `wgt i j` at the ideal floats.
-/
module

public import Idealize.ShloMosaic.Lib.IdealHost
public import Idealize.ShloMosaic.Lib.Routing.Ops

@[expose] public section

noncomputable section

namespace Cert.Resize

open Idealize.ShloMosaic

/-- Input sample `i`'s tent at output sample `j`, in eighths. -/
def tentN (i j : Nat) : Nat := 8 - (2 * (j : Int) - 3 - 8 * (i : Int)).natAbs

/-- The total of output sample `j`'s tents over the input samples, in eighths. -/
def totN (j : Nat) : Nat := if j = 0 ∨ j = 511 then 5 else if j = 1 ∨ j = 510 then 7 else 8

/-- The weight of input sample `i` at output sample `j`, in eighths. -/
def wN (i j : Nat) : Nat := 8 * tentN i j / totN j

/-- The weight of input sample `i` at output sample `j`, as a real number. -/
def wgtR (i j : Nat) : ℝ := (wN i j : ℝ) / 8

/-- The weight of input sample `i` at output sample `j`. -/
def wgt (i j : Nat) : EReal := ((wgtR i j : ℝ) : EReal)

/-- The total of the tents of a column, by adding them up in order. -/
def tentSum (j : Nat) : Nat → Nat
  | 0 => 0
  | n + 1 => tentSum j n + tentN n j

theorem tentSum_eq (j : Nat) : ∀ n, tentSum j n = ∑ i ∈ Finset.range n, tentN i j
  | 0 => rfl
  | n + 1 => by rw [Finset.sum_range_succ, ← tentSum_eq j n]; rfl

set_option maxRecDepth 20000 in
theorem tentSum_tot : ∀ j : Fin 512, tentSum j 128 = totN j := by decide +kernel

set_option maxRecDepth 20000 in
theorem wN_facts : ∀ j : Fin 512, ∀ i : Fin 128, wN i j * totN j = 8 * tentN i j ∧ wN i j ≤ 8 := by decide +kernel

theorem sum_tentN (j : Fin 512) : ∑ i : Fin 128, tentN i j = totN j := by
  rw [← tentSum_tot j, tentSum_eq, Finset.sum_range]

theorem totN_pos (j : Nat) : 5 ≤ totN j := by unfold totN; split_ifs <;> omega

/-- A column's tents, divided by the column's total, are its weights. -/
theorem tent_div_tot (i : Fin 128) (j : Fin 512) : ((tentN i j : ℝ) / 8) / ((totN j : ℝ) / 8) = wgtR i j := by
  have h := (wN_facts j i).1
  have ht : (totN j : ℝ) ≠ 0 := by have := totN_pos j; positivity
  have h' : (wN i j : ℝ) * totN j = 8 * tentN i j := by exact_mod_cast h
  unfold wgtR
  field_simp
  linarith

theorem ofBits_half_f32 : Ideal.ofBits .f32 0x3F000000#32 = ((1 / 2 : ℝ) : EReal) := by
  simp [Ideal.ofBits, Ideal.ieee, -EReal.coe_mul]; norm_num
theorem ofBits_quarter_f32 : Ideal.ofBits .f32 0x3E800000#32 = ((1 / 4 : ℝ) : EReal) := by
  simp [Ideal.ofBits, Ideal.ieee, -EReal.coe_mul]; norm_num
theorem ofBits_neg_half_f32 : Ideal.ofBits .f32 0xBF000000#32 = ((-(1 / 2) : ℝ) : EReal) := by
  simp [Ideal.ofBits, Ideal.ieee, -EReal.coe_mul, -EReal.coe_neg]; norm_num
theorem ofBits_top_sample_f32 : Ideal.ofBits .f32 0x42FF0000#32 = ((255 / 2 : ℝ) : EReal) := by
  simp [Ideal.ofBits, Ideal.ieee, -EReal.coe_mul]; norm_num
theorem ofBits_tiny_f32_lt : Ideal.ofBits .f32 0x38FA0000#32 < ((5 / 8 : ℝ) : EReal) := by
  simp only [Ideal.ofBits, Ideal.ieee]
  simp [-EReal.coe_mul]
  norm_num
theorem ofBits_one_f32' : Ideal.ofBits .f32 0x3F800000#32 = ((1 : ℝ) : EReal) := by
  rw [Ideal.ofBits_one_f32]; rfl
theorem ofBits_zero_f32' : Ideal.ofBits .f32 0x00000000#32 = ((0 : ℝ) : EReal) := by
  rw [Ideal.ofBits_zero_f32]; rfl
theorem ofBits_eps_f32 : ∃ e : ℝ, 0 < e ∧ Ideal.ofBits .f32 0x358637BD#32 = (e : EReal) := by
  refine ⟨8796093 * (2 : ℝ) ^ (-43 : Int), by positivity, ?_⟩
  simp [Ideal.ofBits, Ideal.ieee, -EReal.coe_mul]

/-- A quotient of reals with a divisor that is not zero. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem max_coe (a b : ℝ) : max (a : EReal) (b : EReal) = ((max a b : ℝ) : EReal) := (EReal.coe_strictMono.monotone.map_max).symm

/-- The absolute value, as the ideal floats compute it, of a real. -/
theorem abs_coe (a : ℝ) : max (a : EReal) (-(a : EReal)) = ((|a| : ℝ) : EReal) := by
  rw [← EReal.coe_neg, max_coe]; rfl

theorem toInt_ofNat32 (n : Nat) (h : n < 2 ^ 31) : ((BitVec.ofNat 32 n).toInt : ℝ) = (n : ℝ) := by
  have : (BitVec.ofNat 32 n).toInt = (n : Int) := by
    rw [BitVec.toInt_eq_toNat_of_lt] <;> simp [BitVec.toNat_ofNat] <;> omega
  rw [this]; norm_cast

/-- The sample position of output `j`, as the reference computes it. -/
theorem sample_coe (j : Nat) (h : j < 512) :
    ((((BitVec.ofNat 32 j).toInt : ℝ) : EReal) + Ideal.ofBits .f32 0x3F000000#32) * Ideal.ofBits .f32 0x3E800000#32
        - Ideal.ofBits .f32 0x00000000#32 - Ideal.ofBits .f32 0x3F000000#32
      = (((2 * (j : ℝ) - 3) / 8 : ℝ) : EReal) := by
  rw [toInt_ofNat32 j (by omega), ofBits_half_f32, ofBits_quarter_f32, ofBits_zero_f32', ← EReal.coe_add, ← EReal.coe_mul,
    ← EReal.coe_sub, ← EReal.coe_sub]
  congr 1; ring

theorem tentN_real (i j : Nat) : max 0 (1 - |(2 * (j : ℝ) - 3) / 8 - (i : ℝ)|) = (tentN i j : ℝ) / 8 := by
  have h1 : |(2 * (j : ℝ) - 3) / 8 - (i : ℝ)| = (((2 * (j : Int) - 3 - 8 * (i : Int)).natAbs : ℕ) : ℝ) / 8 := by
    rw [Nat.cast_natAbs, Int.cast_abs]
    push_cast
    rw [show (2 * (j : ℝ) - 3) / 8 - (i : ℝ) = (2 * (j : ℝ) - 3 - 8 * (i : ℝ)) / 8 by ring, abs_div]
    norm_num
  rw [h1]; unfold tentN
  generalize (2 * (j : Int) - 3 - 8 * (i : Int)).natAbs = n
  rcases le_total n 8 with hn | hn
  · rw [Nat.cast_sub hn, max_eq_right]
    · push_cast; ring
    · have : (n : ℝ) ≤ 8 := by exact_mod_cast hn
      linarith
  · rw [Nat.sub_eq_zero_of_le hn, max_eq_left]
    · simp
    · have : (8 : ℝ) ≤ n := by exact_mod_cast hn
      linarith

/-- Input sample `i`'s tent at output sample `j`, as the reference computes it. -/
theorem tent_coe (i j : Nat) (hi : i < 128) :
    max (Ideal.ofBits .f32 0x00000000#32) (Ideal.ofBits .f32 0x3F800000#32
        - max (Ideal.div (max ((((2 * (j : ℝ) - 3) / 8 : ℝ) : EReal) - (((BitVec.ofNat 32 i).toInt : ℝ) : EReal))
              (-((((2 * (j : ℝ) - 3) / 8 : ℝ) : EReal) - (((BitVec.ofNat 32 i).toInt : ℝ) : EReal))))
            (max (Ideal.ofBits .f32 0x3E800000#32) (Ideal.ofBits .f32 0x3F800000#32)))
          (-(Ideal.div (max ((((2 * (j : ℝ) - 3) / 8 : ℝ) : EReal) - (((BitVec.ofNat 32 i).toInt : ℝ) : EReal))
              (-((((2 * (j : ℝ) - 3) / 8 : ℝ) : EReal) - (((BitVec.ofNat 32 i).toInt : ℝ) : EReal))))
            (max (Ideal.ofBits .f32 0x3E800000#32) (Ideal.ofBits .f32 0x3F800000#32)))))
      = (((tentN i j : ℝ) / 8 : ℝ) : EReal) := by
  rw [toInt_ofNat32 i (by omega), ofBits_quarter_f32, ofBits_zero_f32', ofBits_one_f32', ← EReal.coe_sub, abs_coe, max_coe,
    div_coe _ _ (by norm_num), abs_coe, ← EReal.coe_sub, max_coe, ← tentN_real]
  rw [max_eq_right (by norm_num : (1 / 4 : ℝ) ≤ 1), div_one, abs_abs]

/-- The bf16 word of `n` eighths. -/
def enc : Nat → BitVec 16
  | 0 => 0x0000#16 | 1 => 0x3E00#16 | 2 => 0x3E80#16 | 3 => 0x3EC0#16 | 4 => 0x3F00#16
  | 5 => 0x3F20#16 | 6 => 0x3F40#16 | 7 => 0x3F60#16 | _ => 0x3F80#16

theorem ofBits_enc (n : Nat) (h : n ≤ 8) : Ideal.ofBits .bf16 (enc n) = (((n : ℝ) / 8 : ℝ) : EReal) := by
  interval_cases n <;> simp [enc, Ideal.ofBits, Ideal.ieee, -EReal.coe_mul] <;> norm_num

/-- The bf16 word of a weight is the weight. -/
theorem ofBits_enc_wN (i : Fin 128) (j : Fin 512) : Ideal.ofBits .bf16 (enc (wN i j)) = wgt i j :=
  ofBits_enc _ (wN_facts j i).2

end Cert.Resize
-- ==== Proof.MaskMath.lean ====
/-
  One mask's block, read at the ideal floats.

  The kernel resizes a mask `x` by two products with the weight tables, each product split in a high, a middle and a
  low part; at the ideal floats the high part is the operand itself and the other two are the zero array, because every
  operand is finite. What it stores is then the sign of the resized mask, and a weighted mean of its sigmoids.
-/
module

public import proofs.«01_k».proof.Proof.Weights
public import proofs.«01_k».proof.Proof.Gen.MasksIdeal.Skeleton
public import Idealize.ShloMosaic.Lib.Pointwise

@[expose] public section

noncomputable section

namespace Cert.Resize

open Idealize.ShloMosaic Cert.MasksIdeal Cert.MasksIdeal.Gen

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mask `x` resized along its rows: row `p` of the 512, column `b` of the 128. -/
def rowR (x : Fin 128 → Fin 128 → ℝ) (p : Fin 512) (b : Fin 128) : ℝ := ∑ a : Fin 128, wgtR a p * x a b

/-- The mask `x` resized along both axes. -/
def zR (x : Fin 128 → Fin 128 → ℝ) (p q : Fin 512) : ℝ := ∑ b : Fin 128, rowR x p b * wgtR b q

/-- One where the resized mask is positive, else zero. -/
def posR (x : Fin 128 → Fin 128 → ℝ) (p q : Fin 512) : ℝ := if 0 < zR x p q then 1 else 0

/-- The sigmoid of the resized mask. -/
def sigR (x : Fin 128 → Fin 128 → ℝ) (p q : Fin 512) : ℝ := (1 + Real.exp (-zR x p q))⁻¹

/-- The sum of the sigmoids where the resized mask is positive. -/
def numR (x : Fin 128 → Fin 128 → ℝ) : ℝ := ∑ p : Fin 512, ∑ q : Fin 512, sigR x p q * posR x p q

/-- The number of places where the resized mask is positive. -/
def denR (x : Fin 128 → Fin 128 → ℝ) : ℝ := ∑ p : Fin 512, ∑ q : Fin 512, posR x p q

/-- The mask score of the mask `x`: the mean of its sigmoids where it is positive. -/
def meanE (x : Fin 128 → Fin 128 → ℝ) : EReal :=
  Ideal.div (numR x : EReal) ((denR x : EReal) + Ideal.ofBits .f32 0x358637BD#32)

theorem denR_nonneg (x : Fin 128 → Fin 128 → ℝ) : 0 ≤ denR x :=
  Finset.sum_nonneg fun p _ => Finset.sum_nonneg fun q _ => by unfold posR; split_ifs <;> norm_num

theorem den_ne_zero (x : Fin 128 → Fin 128 → ℝ) : (denR x : EReal) + Ideal.ofBits .f32 0x358637BD#32 ≠ 0 := by
  obtain ⟨e, he, h⟩ := ofBits_eps_f32
  have hd := denR_nonneg x
  rw [h, ← EReal.coe_add]
  have : denR x + e ≠ 0 := by positivity
  exact_mod_cast this

/-- Scaling before the division is scaling after it. -/
theorem mul_div_mean (tv : EReal) (x : Fin 128 → Fin 128 → ℝ) :
    Ideal.div (tv * (numR x : EReal)) ((denR x : EReal) + Ideal.ofBits .f32 0x358637BD#32) = tv * meanE x := by
  unfold meanE
  rw [Ideal.div, Ideal.div, if_neg (den_ne_zero x), if_neg (den_ne_zero x), mul_assoc]

/-- An array of reals less itself is the zero array. -/
theorem subf_self {s : Shape} (v : FVec Ideal s .f32) (r : s.Idx → ℝ) (h : ∀ i, v i = ((r i : ℝ) : EReal)) :
    subf v v = constant s .f32 0x00000000#32 := by
  funext i
  show v i - v i = Ideal.ofBits .f32 0x00000000#32
  rw [h, ← EReal.coe_sub, sub_self, Ideal.ofBits_zero_f32]; rfl

/-- The tables of weights. -/
def uTab : FVec Ideal S512x128 .bf16 := fun i => wgt (i 1).val (i 0).val
def utTab : FVec Ideal S128x512 .bf16 := fun i => wgt (i 0).val (i 1).val

variable (v : Vec Ideal S1x128x128 .f32) (x : Fin 128 → Fin 128 → ℝ)

/-- The first product of the mask's block, as a real array. -/
theorem row_apply (X : FVec Ideal S128x128 .bf16) (hX : ∀ a b, X (ix2 a b) = ((x a b : ℝ) : EReal)) (p : Fin 512) (b : Fin 128) :
    matmul dot_S512x128_S128x128_S512x128_1_0_0_1_n_n none uTab X (constant S512x128 .f32 0x00000000#32) (ix2 p b)
      = ((rowR x p b : ℝ) : EReal) := by
  pointwise [uTab, wgt, hX]
  simp only [← EReal.coe_mul, coe_sum]
  rfl

/-- The second product, as a real array. -/
theorem z_apply (Y : FVec Ideal S512x128 .bf16) (hY : ∀ p b, Y (ix2 p b) = ((rowR x p b : ℝ) : EReal)) (p q : Fin 512) :
    matmul dot_S512x128_S128x512_S512x512_1_0_0_1_n_n none Y utTab (constant S512x512 .f32 0x00000000#32) (ix2 p q)
      = ((zR x p q : ℝ) : EReal) := by
  pointwise [utTab, wgt, hY]
  simp only [← EReal.coe_mul, coe_sum]
  rfl

/-- A product with the zero array is the zero array. -/
theorem row_zero (X : FVec Ideal S128x128 .bf16) (hX : X = fun _ => 0) (u : FVec Ideal S512x128 .bf16) :
    matmul dot_S512x128_S128x128_S512x128_1_0_0_1_n_n none u X (constant S512x128 .f32 0x00000000#32) = fun _ => 0 := by
  funext j
  obtain ⟨p, q, rfl⟩ : ∃ p q, j = ix2 p q := ⟨_, _, eq_ix2 j⟩
  subst hX
  pointwise
  simp

theorem z_zero (Y : FVec Ideal S512x128 .bf16) (hY : Y = fun _ => 0) (u : FVec Ideal S128x512 .bf16) :
    matmul dot_S512x128_S128x512_S512x512_1_0_0_1_n_n none Y u (constant S512x512 .f32 0x00000000#32) = fun _ => 0 := by
  funext j
  obtain ⟨p, q, rfl⟩ : ∃ p q, j = ix2 p q := ⟨_, _, eq_ix2 j⟩
  subst hY
  pointwise
  simp

theorem sub_zero_fun {s : Shape} : subf (F := Ideal) (φ := .f32) (fun _ : s.Idx => (0 : EReal)) (fun _ => 0) = fun _ => 0 := by
  funext i
  show (0 : EReal) - 0 = 0
  simp

theorem add_zero_fun {s : Shape} (y : FVec Ideal s .f32) : addf y (fun _ : s.Idx => (0 : EReal)) = y := by
  funext i
  show y i + 0 = y i
  simp

theorem sub_self_fun {s : Shape} (y : FVec Ideal s .f32) (r : s.Idx → ℝ) (h : ∀ i, y i = ((r i : ℝ) : EReal)) :
    subf y y = fun _ => (0 : EReal) := by
  funext i
  show y i - y i = 0
  rw [h, ← EReal.coe_sub, sub_self]; rfl

/-- At the ideal floats narrowing and widening keep every element. -/
theorem trunc_fun {s : Shape} (y : FVec Ideal s .f32) (h : FTy.bits .bf16 < FTy.bits .f32) : truncf .bf16 y h = y :=
  funext fun _ => rfl
theorem ext_fun {s : Shape} (y : FVec Ideal s .bf16) (h : FTy.bits .bf16 < FTy.bits .f32) : extf .f32 y h = y :=
  funext fun _ => rfl

/-- The resized mask the kernel computes is the real one. -/
theorem pay2_apply (hv : ∀ a b, v (ix3 0 a b) = ((x a b : ℝ) : EReal)) (p q : Fin 512) :
    k0_pay2 uTab utTab v (ix2 p q) = ((zR x p q : ℝ) : EReal) := by
  have hX : ∀ a b, shapeCast S128x128 v shapeCasts_S1x128x128_S128x128 (ix2 a b) = ((x a b : ℝ) : EReal) := by
    intro a b
    pointwise [hv]
  have hX' := sub_self_fun (shapeCast S128x128 v shapeCasts_S1x128x128_S128x128) (fun i => x (i 0) (i 1))
    (fun i => by obtain ⟨a, b, rfl⟩ : ∃ a b, i = ix2 a b := ⟨_, _, eq_ix2 i⟩; exact hX a b)
  generalize hY : matmul dot_S512x128_S128x128_S512x128_1_0_0_1_n_n none uTab
    (truncf .bf16 (shapeCast S128x128 v shapeCasts_S1x128x128_S128x128) bitsLt_bf16_f32) (constant S512x128 .f32 0x00000000#32) = Y
  have hYr : ∀ p b, Y (ix2 p b) = ((rowR x p b : ℝ) : EReal) := fun p b => by rw [← hY]; exact row_apply x _ hX p b
  have hY' := sub_self_fun Y (fun i => rowR x (i 0) (i 1))
    (fun i => by obtain ⟨a, b, rfl⟩ : ∃ a b, i = ix2 a b := ⟨_, _, eq_ix2 i⟩; exact hYr a b)
  unfold k0_pay2
  simp only [hY, trunc_fun, ext_fun, hX', sub_zero_fun]
  rw [row_zero _ rfl, add_zero_fun, add_zero_fun]
  rw [trunc_fun] at hY
  rw [hY, hY', sub_zero_fun, z_zero _ rfl, add_zero_fun, add_zero_fun]
  exact z_apply x Y hYr p q

/-- A resized mask's value is positive or not, as the kernel's bit. -/
theorem pos_bit (r : ℝ) : Ideal.cmp .ogt (r : EReal) 0 = BitVec.ofBool (decide (0 < r)) := by
  show BitVec.ofBool (decide ((0 : EReal) < (r : EReal))) = _
  congr 1
  exact decide_eq_decide.mpr (by exact_mod_cast Iff.rfl)

/-- What the kernel stores of a mask: one where the resized mask is positive. -/
theorem pay4_apply (hv : ∀ a b, v (ix3 0 a b) = ((x a b : ℝ) : EReal)) (p q : Fin 512) :
    k0_pay4 uTab utTab v (ix3 0 p q) = (BitVec.ofBool (decide (0 < zR x p q))).setWidth 32 := by
  unfold k0_pay4 k0_pay3
  pointwise [pay2_apply v x hv, pos_bit]

theorem pay5_apply (hv : ∀ a b, v (ix3 0 a b) = ((x a b : ℝ) : EReal)) (p q : Fin 512) :
    k0_pay5 uTab utTab v (ix2 p q) = ((posR x p q : ℝ) : EReal) := by
  unfold k0_pay5 k0_pay3 posR
  pointwise [pay2_apply v x hv, pos_bit]
  by_cases h : 0 < zR x p q
  · simp only [h, decide_true, if_true]
    show (((1 : Int) : ℝ) : EReal) = _
    simp
  · simp only [h, decide_false, if_false]
    show (((0 : Int) : ℝ) : EReal) = _
    simp

theorem pay6_apply (hv : ∀ a b, v (ix3 0 a b) = ((x a b : ℝ) : EReal)) (p q : Fin 512) :
    k0_pay6 uTab utTab v (ix3 0 p q) = ((sigR x p q * posR x p q : ℝ) : EReal) := by
  unfold k0_pay6
  pointwise [pay2_apply v x hv, pay5_apply v x hv]
  rw [Ideal.logistic_coe, ← EReal.coe_mul]
  rfl

/-- The score of a mask with the weighted sigmoids `num` and the bits `bin`. -/
theorem score_apply (bin : FVec Ideal S512x512 .f32) (num : FVec Ideal S1x512x512 .f32) (tv : Vec Ideal S1x1x128 .f32) (l : Fin 128) :
    k0_pay7 bin num tv (ix3 0 0 l)
      = Ideal.div (tv (ix3 0 0 l) * ∑ p : Fin 512, ∑ q : Fin 512, num (ix3 0 p q))
          ((∑ p : Fin 512, ∑ q : Fin 512, bin (ix2 p q)) + Ideal.ofBits .f32 0x358637BD#32) := by
  unfold k0_pay7
  pointwise

/-- What the kernel stores of a mask's score: the top value times the mask score, in every lane. -/
theorem pay7_apply (bin : FVec Ideal S512x512 .f32) (num : FVec Ideal S1x512x512 .f32)
    (hbin : ∀ p q, bin (ix2 p q) = ((posR x p q : ℝ) : EReal))
    (hnum : ∀ p q, num (ix3 0 p q) = ((sigR x p q * posR x p q : ℝ) : EReal)) (tv : Vec Ideal S1x1x128 .f32) (l : Fin 128) :
    k0_pay7 bin num tv (ix3 0 0 l) = tv (ix3 0 0 l) * meanE x := by
  rw [← mul_div_mean, score_apply]
  simp only [hbin, hnum, coe_sum, numR, denR]

end Cert.Resize
-- ==== Proof.MaskRef.lean ====
/-
  The reference's masks, read at the ideal floats.

  The reference takes the masks of the query indices, resizes both axes with the weights it computes, and takes the
  sigmoid: at one element this is the resized mask of MaskMath. A sigmoid is above one half exactly where its argument
  is positive.
-/
module

public import proofs.«01_k».proof.Proof.MaskMath
public import proofs.«01_k».proof.Proof.Gen.MasksReferenceIdeal.Run
public import Idealize.ShloMosaic.Lib.Routing.OpsPair
public import Idealize.ShloMosaic.Lib.ReduceAll

@[expose] public section

noncomputable section

namespace Cert.Resize

open Idealize.ShloMosaic Cert.MasksReferenceIdeal Cert.MasksReferenceIdeal.Gen Cert.MasksReferenceIdeal.Value
open Idealize.ShloMosaic.StableHlo

variable (V0 : Valuation τ sig (Elt Ideal))

/-- The reference's sample positions. -/
theorem ref_v9_apply (j : Fin 512) : res_main_call1_v9 V0 (ix1 j) = (((2 * ((j : Nat) : ℝ) - 3) / 8 : ℝ) : EReal) := by
  unfold res_main_call1_v9
  pointwise
  have h := sample_coe j j.isLt
  rw [Ideal.ofBits_zero_f32, sub_zero] at h
  exact h

/-- The reference's tents. -/
theorem ref_v24_apply (i : Fin 128) (j : Fin 512) : res_main_call1_v24 V0 (ix2 i j) = (((tentN i j : ℝ) / 8 : ℝ) : EReal) := by
  unfold res_main_call1_v24
  pointwise [ref_v9_apply V0, id_eq]
  have h := tent_coe i j i.isLt
  rw [Ideal.ofBits_zero_f32, Ideal.ofBits_one_f32] at h
  exact h

/-- The reference's column totals. -/
theorem ref_v26_apply (j : Fin 512) : res_main_call1_v26 V0 (ix2 0 j) = (((totN j : ℝ) / 8 : ℝ) : EReal) := by
  unfold res_main_call1_v26
  pointwise [ref_v24_apply V0]
  rw [coe_sum, ← sum_tentN, Nat.cast_sum, Finset.sum_div]

/-- The reference's weights: the tents divided by the column totals. -/
theorem ref_w_apply (i : Fin 128) (j : Fin 512) :
    (select (broadcastInDim S128x512 ![0, 1] bcast_S1x512_S128x512_0_1 (broadcastInDim S1x512 ![1] bcast_S512_S1x512_1 (andi (cmpf .oge (res_main_call1_v9 V0) (broadcastInDim S512 ![] bcast_S_S512 (constant S_ .f32 0xBF000000#32))) (cmpf .ole (res_main_call1_v9 V0) (broadcastInDim S512 ![] bcast_S_S512 (constant S_ .f32 0x42FF0000#32)))))) (select (broadcastInDim S128x512 ![0, 1] bcast_S1x512_S128x512_0_1 (cmpf .ogt (Host.absf (res_main_call1_v26 V0)) (broadcastInDim S1x512 ![] bcast_S_S1x512 (constant S_ .f32 0x38FA0000#32)))) (Host.divf (res_main_call1_v24 V0) (broadcastInDim S128x512 ![0, 1] bcast_S1x512_S128x512_0_1 (select (cmpf .une (res_main_call1_v26 V0) (broadcastInDim S1x512 ![] bcast_S_S1x512 (constant S_ .f32 0x00000000#32))) (res_main_call1_v26 V0) (broadcastInDim S1x512 ![] bcast_S_S1x512 (sitofp .f32 (constantI S_ 32 1#32)))))) (broadcastInDim S128x512 ![] bcast_S_S128x512 (sitofp .f32 (constantI S_ 32 0#32)))) (broadcastInDim S128x512 ![] bcast_S_S128x512 (sitofp .f32 (constantI S_ 32 0#32))) : FVec Ideal S128x512 .f32) (ix2 i j)
      = wgt i j := by
  pointwise [ref_v9_apply V0, ref_v24_apply V0, ref_v26_apply V0]
  have hj : ((j : Nat) : ℝ) ≤ 511 := by exact_mod_cast Nat.le_of_lt_succ j.isLt
  have hj0 : (0 : ℝ) ≤ ((j : Nat) : ℝ) := Nat.cast_nonneg _
  have ht : (5 : ℝ) ≤ (totN j : ℝ) := by exact_mod_cast totN_pos j
  have h1 : Ideal.ofBits .f32 0xBF000000#32 ≤ (((2 * ((j : Nat) : ℝ) - 3) / 8 : ℝ) : EReal) := by
    rw [ofBits_neg_half_f32, EReal.coe_le_coe_iff]; linarith
  have h2 : (((2 * ((j : Nat) : ℝ) - 3) / 8 : ℝ) : EReal) ≤ Ideal.ofBits .f32 0x42FF0000#32 := by
    rw [ofBits_top_sample_f32, EReal.coe_le_coe_iff]; linarith
  have h3 : Ideal.ofBits .f32 0x38FA0000#32 < FloatOps.absf (F := Ideal) (φ := .f32) (((totN j : ℝ) / 8 : ℝ) : EReal) := by
    refine lt_of_lt_of_le ofBits_tiny_f32_lt (le_trans ?_ (le_max_left _ _))
    rw [EReal.coe_le_coe_iff]; linarith
  have h4 : (((totN j : ℝ) / 8 : ℝ) : EReal) ≠ 0 := by
    have : (totN j : ℝ) / 8 ≠ 0 := by positivity
    exact_mod_cast this
  rw [decide_eq_true h1, decide_eq_true h2, if_pos h3, if_pos h4, div_coe _ _ (by positivity), tent_div_tot]
  rfl

/-- An array of query indices in range passes the reference's wrapping of negative indices unchanged. -/
theorem ref_v5_apply (Q : Fin 100 → Fin 200)
    (hQ : ∀ k, (V0 (Proc.devRef .tc main_arg1) : IVec S100 32) (ix1 k) = BitVec.ofNat 32 (Q k).val) (k : Fin 100) :
    (res_main_call0_v5 V0 : IVec S100x1 32) (ix2 k 0) = BitVec.ofNat 32 (Q k).val := by
  unfold res_main_call0_v5
  pointwise
  rw [hQ]
  exact Routing.wrap_of_lt _ _ (by have := (Q k).isLt; rw [BitVec.toNat_ofNat]; omega)

/-- Taking masks by a column of indices in range: mask `k` of the result is the mask of index `k`. -/
theorem gather_masks (d : S200x128x128.Idx → EReal) (idx : IVec S100x1 32) (k : Fin 100) (a b : Fin 128) (m : Fin 200)
    (hm : idx (ix2 k 0) = BitVec.ofNat 32 m.val) :
    Host.gather gather_S200x128x128_S100x1_S100x128x128_12_0_n_n_0_1_1128128 d idx (ix3 k a b) = d (ix3 m a b) := by
  unfold Host.gather
  refine congrArg d (funext fun c => Fin.ext ?_)
  generalize hD : gather_S200x128x128_S100x1_S100x128x128_12_0_n_n_0_1_1128128 = D
  match c with
  | ⟨0, _⟩ =>
    show D.start (ix3 k a b) idx 0 + D.batchCoord (ix3 k a b) 0 + D.offCoord (ix3 k a b) 0 = m.val
    rw [← hD, GatherDims.batchCoord_eq_zero _ _ _ (by decide), GatherDims.offCoord_eq_zero _ _ _ (by decide)]
    unfold GatherDims.start
    rw [dif_pos (by decide)]
    have hsi : ∀ h, GatherDims.siIdx gather_S200x128x128_S100x1_S100x128x128_12_0_n_n_0_1_1128128 (ix3 k a b) ⟨0, h⟩
        = ix2 k (0 : Fin 1) := by
      intro h
      funext e
      match e with
      | ⟨0, _⟩ => rfl
      | ⟨1, _⟩ => rfl
    have hs := hsi (by decide)
    have hlt := m.isLt
    have hi : (idx (ix2 k (0 : Fin 1))).toInt = (m.val : Int) := by
      rw [hm, BitVec.toInt_eq_toNat_of_lt] <;> simp only [BitVec.toNat_ofNat] <;> omega
    show min (idx (GatherDims.siIdx _ (ix3 k a b) ⟨0, _⟩)).toInt.toNat (200 - 1) + 0 + 0 = m.val
    rw [hs, hi]
    omega
  | ⟨1, _⟩ =>
    show D.start (ix3 k a b) idx 1 + D.batchCoord (ix3 k a b) 1 + D.offCoord (ix3 k a b) 1 = a.val
    rw [← hD, GatherDims.batchCoord_eq_zero _ _ _ (by decide)]
    unfold GatherDims.start GatherDims.offCoord
    rw [dif_neg (by decide), dif_pos (by decide)]
    simp only [Nat.zero_add]
    rfl
  | ⟨2, _⟩ =>
    show D.start (ix3 k a b) idx 2 + D.batchCoord (ix3 k a b) 2 + D.offCoord (ix3 k a b) 2 = b.val
    rw [← hD, GatherDims.batchCoord_eq_zero _ _ _ (by decide)]
    unfold GatherDims.start GatherDims.offCoord
    rw [dif_neg (by decide), dif_pos (by decide)]
    simp only [Nat.zero_add]
    rfl

/-- The reference's two resizes of the masks `T`. -/
theorem ref_z_apply (T : FVec Ideal S100x128x128 .f32) (W1 W2 : FVec Ideal S128x512 .f32)
    (X : Fin 100 → Fin 128 → Fin 128 → ℝ) (hT : ∀ k a b, T (ix3 k a b) = ((X k a b : ℝ) : EReal))
    (h1 : ∀ i j, W1 (ix2 i j) = wgt i.val j.val) (h2 : ∀ i j, W2 (ix2 i j) = wgt i.val j.val) (k : Fin 100) (p q : Fin 512) :
    Host.dotGeneral dot_S100x512x128_S128x512_S100x512x512_2_0_01_1_n_n (some .fp32) (transpose S100x512x128 [0, 2, 1]
      (Host.dotGeneral dot_S100x128x128_S128x512_S100x128x512_2_0_01_1_n_n (some .fp32)
        (transpose S100x128x128 [0, 2, 1] T transposes_S100x128x128_S100x128x128_0_2_1) W1)
      transposes_S100x128x512_S100x512x128_0_2_1) W2 (ix3 k p q) = ((zR (X k) p q : ℝ) : EReal) := by
  pointwise [hT, h1, h2, wgt]
  simp only [← EReal.coe_mul, coe_sum]
  congr 1
  unfold zR rowR
  refine Finset.sum_congr rfl fun b _ => ?_
  congr 1
  exact Finset.sum_congr rfl fun a _ => mul_comm _ _

/-- The masks the reference takes. -/
theorem ref_taken_apply (M : FVec Ideal S200x128x128 .f32) (idx : IVec S100x1 32) (Q : Fin 100 → Fin 200)
    (hQ : ∀ k, idx (ix2 k 0) = BitVec.ofNat 32 (Q k).val) (k : Fin 100) (a b : Fin 128) :
    (select (broadcastInDim S100x128x128 ![0] bcast_S100_S100x128x128_0 (Host.reduce IntOp.andi (andi (cmpi .sge idx (broadcastInDim S100x1 ![] bcast_S_S100x1 (constantI S_ 32 0#32))) (cmpi .sle idx (broadcastInDim S100x1 ![0, 1] bcast_S1x1_S100x1_0_1 (broadcastInDim S1x1 ![1] bcast_S1_S1x1_1 (constantI S1 32 199#32))))) (constantI S_ 1 1#1) reducesTo_S100x1_S100_d1 h_S_)) (Host.gather gather_S200x128x128_S100x1_S100x128x128_12_0_n_n_0_1_1128128 M idx) (broadcastInDim S100x128x128 ![] bcast_S_S100x128x128 (constant S_ .f32 0x7FC00000#32)) : FVec Ideal S100x128x128 .f32) (ix3 k a b)
      = M (ix3 (Q k) a b) := by
  have hr : ∀ j, Host.reduce IntOp.andi (andi (cmpi .sge idx (broadcastInDim S100x1 ![] bcast_S_S100x1 (constantI S_ 32 0#32))) (cmpi .sle idx (broadcastInDim S100x1 ![0, 1] bcast_S1x1_S100x1_0_1 (broadcastInDim S1x1 ![1] bcast_S1_S1x1_1 (constantI S1 32 199#32))))) (constantI S_ 1 1#1) reducesTo_S100x1_S100_d1 h_S_ j = 1#1 := by
    intro j
    refine Host.reduce_andi_one _ _ _ _ _ rfl fun i => ?_
    obtain ⟨k', z, rfl⟩ : ∃ k' z, i = ix2 k' z := ⟨_, _, eq_ix2 i⟩
    obtain rfl : z = 0 := Subsingleton.elim _ _
    pointwise
    rw [hQ]
    generalize Q k' = m
    revert m
    decide +kernel
  generalize hR : Host.reduce IntOp.andi (andi (cmpi .sge idx (broadcastInDim S100x1 ![] bcast_S_S100x1 (constantI S_ 32 0#32))) (cmpi .sle idx (broadcastInDim S100x1 ![0, 1] bcast_S1x1_S100x1_0_1 (broadcastInDim S1x1 ![1] bcast_S1_S1x1_1 (constantI S1 32 199#32))))) (constantI S_ 1 1#1) reducesTo_S100x1_S100_d1 h_S_ = R
  rw [hR] at hr
  have hb : broadcastInDim S100x128x128 ![0] bcast_S100_S100x128x128_0 R (ix3 k a b) = 1#1 := by
    pointwise [hr]
  rw [show ∀ (c : IVec S100x128x128 1) (x y : FVec Ideal S100x128x128 .f32) i, select c x y i = Scalar.select (c i) (x i) (y i) from
    fun _ _ _ _ => rfl, hb, gather_masks M idx k a b (Q k) (hQ k)]
  rfl

/-- The reference's sigmoid of an array. -/
theorem ref_sig_apply (Z : FVec Ideal S100x512x512 .f32) (i : S100x512x512.Idx) :
    Host.divf (broadcastInDim S100x512x512 ![] bcast_S_S100x512x512 (constant S_ .f32 0x3F800000#32)) (addf (broadcastInDim S100x512x512 ![] bcast_S_S100x512x512 (constant S_ .f32 0x3F800000#32)) (Host.exp (Host.negf Z))) i
      = Ideal.logistic (Z i) := by
  pointwise
  rfl

variable (X : Fin 200 → Fin 128 → Fin 128 → ℝ) (Q : Fin 100 → Fin 200)
  (hX : ∀ m a b, (V0 (Proc.devRef .tc main_arg0) : FVec Ideal S1x200x128x128 .f32) (ix4 0 m a b) = ((X m a b : ℝ) : EReal))
  (hQ : ∀ k, (V0 (Proc.devRef .tc main_arg1) : IVec S100 32) (ix1 k) = BitVec.ofNat 32 (Q k).val)

include hX hQ

/-- The reference's sigmoids of the resized masks. -/
theorem ref_v13_apply (k : Fin 100) (p q : Fin 512) :
    (res_main_v13 V0 : FVec Ideal S100x512x512 .f32) (ix3 k p q) = ((sigR (X (Q k)) p q : ℝ) : EReal) := by
  unfold res_main_v13
  have hM : ∀ m a b, (shapeCast S200x128x128 (V0 (Proc.devRef .tc main_arg0) : FVec Ideal S1x200x128x128 .f32)
      shapeCasts_S1x200x128x128_S200x128x128) (ix3 m a b) = ((X m a b : ℝ) : EReal) := by
    intro m a b
    pointwise [hX]
  have hz := ref_z_apply _ _ _ (fun k => X (Q k))
    (fun k a b => (ref_taken_apply _ (res_main_call0_v5 V0) Q (ref_v5_apply V0 Q hQ) k a b).trans (hM (Q k) a b))
    (ref_w_apply V0) (ref_w_apply V0) k p q
  rw [show res_main_call2_v9 V0 = res_main_call1_v9 V0 from rfl, show res_main_call2_v24 V0 = res_main_call1_v24 V0 from rfl,
    show res_main_call2_v26 V0 = res_main_call1_v26 V0 from rfl]
  exact ((ref_sig_apply _ _).trans (congrArg Ideal.logistic hz)).trans (Ideal.logistic_coe _)

omit hX hQ in
/-- A sigmoid is above one half exactly where its argument is positive. -/
theorem sig_half (x : Fin 128 → Fin 128 → ℝ) (p q : Fin 512) :
    Ideal.cmp .ogt ((sigR x p q : ℝ) : EReal) (Ideal.ofBits .f32 0x3F000000#32) = BitVec.ofBool (decide (0 < zR x p q)) := by
  rw [ofBits_half_f32]
  show BitVec.ofBool (decide (((1 / 2 : ℝ) : EReal) < ((sigR x p q : ℝ) : EReal))) = _
  congr 1
  refine decide_eq_decide.mpr ?_
  rw [EReal.coe_lt_coe_iff]
  unfold sigR
  have hp := Real.exp_pos (-zR x p q)
  rw [one_div, inv_lt_inv₀ (by norm_num) (by positivity)]
  constructor
  · intro h
    have h1 : Real.exp (-zR x p q) < 1 := by linarith
    have := Real.exp_lt_one_iff.mp h1
    linarith
  · intro h
    have h1 : Real.exp (-zR x p q) < 1 := Real.exp_lt_one_iff.mpr (by linarith)
    linarith

/-- The reference's mask bits, as floats. -/
theorem ref_v16_apply (k : Fin 100) (p q : Fin 512) :
    (res_main_v16 V0 : FVec Ideal S100x512x512 .f32) (ix3 k p q) = ((posR (X (Q k)) p q : ℝ) : EReal) := by
  unfold res_main_v16
  have h13 := ref_v13_apply V0 X Q hX hQ k p q
  generalize res_main_v13 V0 = Z at h13 ⊢
  show (((Ideal.cmp .ogt (Z (ix3 k p q)) (Ideal.ofBits .f32 0x3F000000#32)).toNat : ℝ) : EReal) = _
  rw [h13, sig_half]
  unfold posR
  by_cases h : 0 < zR (X (Q k)) p q <;> simp [h]

/-- The reference's masks. -/
theorem ref_v25_apply (k : Fin 100) (p q : Fin 512) :
    (cmpf (F := Ideal) (s := S100x512x512) (φ := .f32) .ogt (res_main_v13 V0) (broadcastInDim S100x512x512 ![] bcast_S_S100x512x512 (constant S_ .f32 0x3F000000#32)))
      (ix3 k p q) = BitVec.ofBool (decide (0 < zR (X (Q k)) p q)) := by
  have h13 := ref_v13_apply V0 X Q hX hQ k p q
  generalize res_main_v13 V0 = Z at h13 ⊢
  show Ideal.cmp .ogt (Z (ix3 k p q)) (Ideal.ofBits .f32 0x3F000000#32) = _
  rw [h13, sig_half]

omit hX hQ in
/-- The reference's mask scores, from any arrays of sigmoids and bits. -/
theorem ref_mean_apply (A B : FVec Ideal S100x512x512 .f32) (T : FVec Ideal S100x1x128 .f32) (k : Fin 100) :
    mulf (shapeCast S100 (extractStridedSlice S100x1x1 ![0, 0, 0] T slices_S100x1x128_S100x1x1_0_0_0) shapeCasts_S100x1x1_S100)
      (Host.divf (Host.reduceAdd (mulf A B) (constant S_ .f32 0x00000000#32) reducesTo_S100x512x512_S100_d1_2 h_S_)
        (addf (Host.reduceAdd B (constant S_ .f32 0x00000000#32) reducesTo_S100x512x512_S100_d1_2 h_S_)
          (broadcastInDim S100 ![] bcast_S_S100 (constant S_ .f32 0x358637BD#32)))) (ix1 k)
      = T (ix3 k 0 0) * Ideal.div (∑ p : Fin 512, ∑ q : Fin 512, A (ix3 k p q) * B (ix3 k p q))
          ((∑ p : Fin 512, ∑ q : Fin 512, B (ix3 k p q)) + Ideal.ofBits .f32 0x358637BD#32) := by
  pointwise

/-- The reference's final scores. -/
theorem ref_v23_apply (T : FVec Ideal S100x1x128 .f32) (k : Fin 100) :
    mulf (shapeCast S100 (extractStridedSlice S100x1x1 ![0, 0, 0] T slices_S100x1x128_S100x1x1_0_0_0) shapeCasts_S100x1x1_S100)
      (Host.divf (Host.reduceAdd (mulf (res_main_v13 V0) (res_main_v16 V0)) (constant S_ .f32 0x00000000#32) reducesTo_S100x512x512_S100_d1_2 h_S_)
        (addf (Host.reduceAdd (res_main_v16 V0) (constant S_ .f32 0x00000000#32) reducesTo_S100x512x512_S100_d1_2 h_S_)
          (broadcastInDim S100 ![] bcast_S_S100 (constant S_ .f32 0x358637BD#32)))) (ix1 k)
      = T (ix3 k 0 0) * meanE (X (Q k)) := by
  have h13 := ref_v13_apply V0 X Q hX hQ k
  have h16 := ref_v16_apply V0 X Q hX hQ k
  generalize res_main_v13 V0 = A at h13 ⊢
  generalize res_main_v16 V0 = B at h16 ⊢
  refine (ref_mean_apply A B T k).trans ?_
  simp only [h13, h16, ← EReal.coe_mul, coe_sum]
  rfl

end Cert.Resize
-- ==== Proof.MaskStep.lean ====
/-
  What one grid step leaves in its two output blocks.

  A step handles ten masks the same way. The generated run records ten stores into each output, one row per mask, the
  newest first; the printed payloads are cut at different places from mask to mask, but every one of them is the same
  tower of operations, `k0_pay4` for the mask bits and `k0_pay7 ∘ (k0_pay5, k0_pay6)` for the score. So a row of the
  block is that tower at the row's own mask.
-/
module

public import proofs.«01_k».proof.Proof.Gen.MasksIdeal.Frame
public import Idealize.ShloMosaic.Lib.Pipeline.Value
public import Idealize.ShloMosaic.Lib.WholeRead
public import Idealize.ShloMosaic.Lib.Pointwise

@[expose] public section

set_option maxRecDepth 16384

noncomputable section

namespace Cert.Resize

open Idealize.ShloMosaic Idealize.ShloMosaic.TcCoe
open Cert.MasksIdeal Cert.MasksIdeal.Gen

variable {F : FTy → Type} [FloatOps F]

/-- The whole of a buffer, loaded at offsets `off`. -/
abbrev rd {s : Shape} {e : EltTy} (m : Memref sig .tc .vmem s e) (h : m.IsWhole) (X : Vec F s e)
    (off : Fin s.rank → Nat) (inb : ∀ a, off a + s.size a ≤ s.size a) : Vec F s e :=
  View.readAt (Elt F) m.view (Rect.unit off s.size inb).toLoadRect (h.unread X)

theorem rd_eq {s : Shape} {e : EltTy} (m : Memref sig .tc .vmem s e) (h : m.IsWhole) (X : Vec F s e)
    (off : Fin s.rank → Nat) (inb : ∀ a, off a + s.size a ≤ s.size a) (h0 : off = fun _ => 0) :
    rd m h X off inb = X := by
  subst h0
  funext y
  refine (Memref.IsWhole.readAt_unread h X (Rect.unit (s := s) (fun _ => 0) s.size inb).toLoadRect y).trans (congrArg X ?_)
  funext a
  apply Fin.ext
  show 0 + 1 * (y a).val = (y a).val
  omega

theorem zero3 : (![0, 0, 0] : Fin 3 → Nat) = fun _ => 0 := funext fun a => by fin_cases a <;> rfl
theorem zero2 : (![0, 0] : Fin 2 → Nat) = fun _ => 0 := funext fun a => by fin_cases a <;> rfl

/-- A mask's block, loaded whole. -/
abbrev rd3 (m : Memref sig .tc .vmem S1x128x128 .f32) (h : m.IsWhole) (X : Vec F S1x128x128 .f32) :
    Vec F S1x128x128 .f32 := rd m h X ![0, 0, 0] inb_S1x128x128_S1x128x128_0_0_0

theorem row_inb (r : Fin 10) : ∀ a, (![r.val, 0, 0] : Fin 3 → Nat) a + S1x512x512.size a ≤ S10x512x512.size a := by
  revert r; decide

theorem row_inb1 (r : Fin 10) : ∀ a, (![r.val, 0, 0] : Fin 3 → Nat) a + S1x1x128.size a ≤ S10x1x128.size a := by
  revert r; decide

/-- The rows in the order of the stores, newest first. -/
abbrev rowsBack : List (Fin 10) := [9, 8, 7, 6, 5, 4, 3, 2, 1, 0]

/-- The ten stores of mask bits. -/
def maskPieces (u : Vec F S512x128 .bf16) (ut : Vec F S128x512 .bf16) (v : Fin 10 → Vec F S1x128x128 .f32) :
    List (View.Piece (Elt F) S10x512x512 .i32) :=
  rowsBack.map fun r => ⟨Rect.unit ![r.val, 0, 0] S1x512x512.size (row_inb r), k0_pay4 u ut (v r)⟩

/-- The ten stores of scores. -/
def scorePieces (u : Vec F S512x128 .bf16) (ut : Vec F S128x512 .bf16) (v : Fin 10 → Vec F S1x128x128 .f32)
    (tv : Fin 10 → Vec F S1x1x128 .f32) : List (View.Piece (Elt F) S10x1x128 .f32) :=
  rowsBack.map fun r => ⟨Rect.unit ![r.val, 0, 0] S1x1x128.size (row_inb1 r),
    k0_pay7 (k0_pay5 u ut (v r)) (k0_pay6 u ut (v r)) (tv r)⟩

/-- Row `r` of the block of top values. -/
abbrev tvRow (x : Vec F S10x1x128 .f32) (r : Fin 10) : Vec F S1x1x128 .f32 :=
  fun y => x ((Rect.unit (s := S10x1x128) ![r.val, 0, 0] S1x1x128.size (row_inb1 r)).toLoadRect.idx y)

section run

variable (c : Dev nD) (i : grid0.Coords)
    (arg2 : Memref sig .tc .vmem S1x128x128 .f32) (harg2 : arg2.IsWhole)
    (arg3 : Memref sig .tc .vmem S1x128x128 .f32) (harg3 : arg3.IsWhole)
    (arg4 : Memref sig .tc .vmem S1x128x128 .f32) (harg4 : arg4.IsWhole)
    (arg5 : Memref sig .tc .vmem S1x128x128 .f32) (harg5 : arg5.IsWhole)
    (arg6 : Memref sig .tc .vmem S1x128x128 .f32) (harg6 : arg6.IsWhole)
    (arg7 : Memref sig .tc .vmem S1x128x128 .f32) (harg7 : arg7.IsWhole)
    (arg8 : Memref sig .tc .vmem S1x128x128 .f32) (harg8 : arg8.IsWhole)
    (arg9 : Memref sig .tc .vmem S1x128x128 .f32) (harg9 : arg9.IsWhole)
    (arg10 : Memref sig .tc .vmem S1x128x128 .f32) (harg10 : arg10.IsWhole)
    (arg11 : Memref sig .tc .vmem S1x128x128 .f32) (harg11 : arg11.IsWhole)
    (arg12 : Memref sig .tc .vmem S512x128 .bf16) (harg12 : arg12.IsWhole)
    (arg13 : Memref sig .tc .vmem S128x512 .bf16) (harg13 : arg13.IsWhole)
    (arg14 : Memref sig .tc .vmem S10x1x128 .f32) (harg14 : arg14.IsWhole)
    (arg15 : Memref sig .tc .vmem S10x512x512 .i32) (harg15 : arg15.IsWhole)
    (arg16 : Memref sig .tc .vmem S10x1x128 .f32) (harg16 : arg16.IsWhole)
    (x0 x1 x2 x3 x4 x5 x6 x7 x8 x9 : Vec F S1x128x128 .f32) (x10 : Vec F S512x128 .bf16)
    (x11 : Vec F S128x512 .bf16) (x12 : Vec F S10x1x128 .f32) (xt0 : TbBuf0 (F := F) c tbM0_0)

theorem rd3_eq (m : Memref sig .tc .vmem S1x128x128 .f32) (h : m.IsWhole) (X : Vec F S1x128x128 .f32) : rd3 m h X = X :=
  rd_eq m h X _ _ zero3

theorem pieces13_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 xt0).1
    = maskPieces x10 x11 ![x0, x1, x2, x3, x4, x5, x6, x7, x8, x9] := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 xt0).1
      = maskPieces (rd arg12 harg12 x10 ![0, 0] inb_S512x128_S512x128_0_0)
          (rd arg13 harg13 x11 ![0, 0] inb_S128x512_S128x512_0_0)
          ![rd3 arg2 harg2 x0, rd3 arg3 harg3 x1, rd3 arg4 harg4 x2, rd3 arg5 harg5 x3, rd3 arg6 harg6 x4, rd3 arg7 harg7 x5, rd3 arg8 harg8 x6, rd3 arg9 harg9 x7, rd3 arg10 harg10 x8, rd3 arg11 harg11 x9] := rfl
  rw [e, rd_eq _ _ _ _ _ zero2, rd_eq _ _ _ _ _ zero2]
  simp only [rd3_eq]

theorem pieces14_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 xt0).2.1
    = scorePieces x10 x11 ![x0, x1, x2, x3, x4, x5, x6, x7, x8, x9] (tvRow x12) := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 xt0).2.1
      = scorePieces (rd arg12 harg12 x10 ![0, 0] inb_S512x128_S512x128_0_0)
          (rd arg13 harg13 x11 ![0, 0] inb_S128x512_S128x512_0_0)
          ![rd3 arg2 harg2 x0, rd3 arg3 harg3 x1, rd3 arg4 harg4 x2, rd3 arg5 harg5 x3, rd3 arg6 harg6 x4, rd3 arg7 harg7 x5, rd3 arg8 harg8 x6, rd3 arg9 harg9 x7, rd3 arg10 harg10 x8, rd3 arg11 harg11 x9]
          (fun r => View.readAt (Elt F) arg14.view
            (Rect.unit (s := S10x1x128) ![r.val, 0, 0] S1x1x128.size (row_inb1 r)).toLoadRect (harg14.unread x12)) := rfl
  rw [e, rd_eq _ _ _ _ _ zero2, rd_eq _ _ _ _ _ zero2]
  simp only [rd3_eq]
  exact congrArg _ (funext fun r => funext fun y => Memref.IsWhole.readAt_unread harg14 x12 _ y)

theorem mask_row (u : Vec F S512x128 .bf16) (ut : Vec F S128x512 .bf16) (v : Fin 10 → Vec F S1x128x128 .f32)
    (p : View.Piece (Elt F) S10x512x512 .i32) (hp : p ∈ maskPieces u ut v) (y : p.1.shape.Idx) :
    p.2 y = k0_pay4 u ut (v (p.1.emb y 0)) (ix3 0 (p.1.emb y 1) (p.1.emb y 2)) := by
  obtain ⟨r, -, rfl⟩ := List.mem_map.1 hp
  have h0 : ((Rect.unit (s := S10x512x512) ![r.val, 0, 0] S1x512x512.size (row_inb r)).emb y) 0 = r :=
    Fin.ext (by
      show r.val + 1 * (y (0 : Fin 3)).val = r.val
      have : (y (0 : Fin 3)).val < 1 := (y (0 : Fin 3)).isLt
      omega)
  show k0_pay4 u ut (v r) y = _
  rw [h0]
  refine congrArg (k0_pay4 u ut (v r)) (funext fun a => ?_)
  fin_cases a
  · exact Fin.ext (by
      show (y (0 : Fin 3)).val = 0
      have : (y (0 : Fin 3)).val < 1 := (y (0 : Fin 3)).isLt
      omega)
  · exact Fin.ext (by show (y (1 : Fin 3)).val = 0 + 1 * (y (1 : Fin 3)).val; omega)
  · exact Fin.ext (by show (y (2 : Fin 3)).val = 0 + 1 * (y (2 : Fin 3)).val; omega)

theorem score_row (u : Vec F S512x128 .bf16) (ut : Vec F S128x512 .bf16) (v : Fin 10 → Vec F S1x128x128 .f32)
    (tv : Fin 10 → Vec F S1x1x128 .f32)
    (p : View.Piece (Elt F) S10x1x128 .f32) (hp : p ∈ scorePieces u ut v tv) (y : p.1.shape.Idx) :
    p.2 y = k0_pay7 (k0_pay5 u ut (v (p.1.emb y 0))) (k0_pay6 u ut (v (p.1.emb y 0))) (tv (p.1.emb y 0))
      (ix3 0 0 (p.1.emb y 2)) := by
  obtain ⟨r, -, rfl⟩ := List.mem_map.1 hp
  have h0 : ((Rect.unit (s := S10x1x128) ![r.val, 0, 0] S1x1x128.size (row_inb1 r)).emb y) 0 = r :=
    Fin.ext (by
      show r.val + 1 * (y (0 : Fin 3)).val = r.val
      have : (y (0 : Fin 3)).val < 1 := (y (0 : Fin 3)).isLt
      omega)
  show k0_pay7 (k0_pay5 u ut (v r)) (k0_pay6 u ut (v r)) (tv r) y = _
  rw [h0]
  refine congrArg (k0_pay7 (k0_pay5 u ut (v r)) (k0_pay6 u ut (v r)) (tv r)) (funext fun a => ?_)
  fin_cases a
  · exact Fin.ext (by
      show (y (0 : Fin 3)).val = 0
      have : (y (0 : Fin 3)).val < 1 := (y (0 : Fin 3)).isLt
      omega)
  · exact Fin.ext (by
      show (y (1 : Fin 3)).val = 0
      have : (y (1 : Fin 3)).val < 1 := (y (1 : Fin 3)).isLt
      omega)
  · exact Fin.ext (by show (y (2 : Fin 3)).val = 0 + 1 * (y (2 : Fin 3)).val; omega)

/-- The block of mask bits a step leaves: row `r` is the payload of the step's mask `r`. -/
theorem out13_apply (y : S10x512x512.Idx) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 xt0 y
    = k0_pay4 x10 x11 (![x0, x1, x2, x3, x4, x5, x6, x7, x8, x9] (y 0)) (ix3 0 (y 1) (y 2)) := by
  have hc := cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 xt0
  unfold out0_A_13
  rw [View.read_writes_eq_canon _ _ _ hc]
  refine View.canon_apply_of_pieces
    (fun y : S10x512x512.Idx => k0_pay4 x10 x11 (![x0, x1, x2, x3, x4, x5, x6, x7, x8, x9] (y 0)) (ix3 0 (y 1) (y 2)))
    _ (fun p hp x => ?_) y (hc y)
  rw [pieces13_eq] at hp
  exact mask_row _ _ _ p hp x

/-- The block of scores a step leaves: row `r` is the payload of the step's mask `r`. -/
theorem out14_apply (y : S10x1x128.Idx) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 xt0 y
    = k0_pay7 (k0_pay5 x10 x11 (![x0, x1, x2, x3, x4, x5, x6, x7, x8, x9] (y 0)))
        (k0_pay6 x10 x11 (![x0, x1, x2, x3, x4, x5, x6, x7, x8, x9] (y 0))) (tvRow x12 (y 0)) (ix3 0 0 (y 2)) := by
  have hc := cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 xt0
  unfold out0_A_14
  rw [View.read_writes_eq_canon _ _ _ hc]
  refine View.canon_apply_of_pieces
    (fun y : S10x1x128.Idx => k0_pay7 (k0_pay5 x10 x11 (![x0, x1, x2, x3, x4, x5, x6, x7, x8, x9] (y 0)))
        (k0_pay6 x10 x11 (![x0, x1, x2, x3, x4, x5, x6, x7, x8, x9] (y 0))) (tvRow x12 (y 0)) (ix3 0 0 (y 2)))
    _ (fun p hp x => ?_) y (hc y)
  rw [pieces14_eq] at hp
  exact score_row _ _ _ _ p hp x

end run

end Cert.Resize

end
-- ==== Proof.MaskArrays.lean ====
/-
  The blocks a grid step of the kernel reads, in terms of the arguments.

  Step `t` handles the masks `10 t + r`, `r < 10`: its block `r` is the row of the mask array the query index table
  names for that mask, its two constant blocks are the resize weights, its block of top values is rows `10 t + r`.
-/
module

public import proofs.«01_k».proof.Proof.MaskStep
public import proofs.«01_k».proof.Proof.MaskMath
public import Idealize.ShloMosaic.Lib.StableHlo.Run

@[expose] public section

set_option maxRecDepth 16384

noncomputable section

namespace Cert.Resize

open Idealize.ShloMosaic Idealize.ShloMosaic.TcCoe
open Cert.MasksIdeal Cert.MasksIdeal.Gen

section generic

variable {F : FTy → Type} [FloatOps F] (m : (ℓ : Loc nD τ sig) → Buf (Elt F) ℓ) (c : Dev nD)

theorem drop_unit {α : Type} (x : S1x200x128x128.Idx → α) (q : Fin 200) (a b : Fin 128) :
    shapeCast S200x128x128 x shapeCasts_S1x200x128x128_S200x128x128 (ix3 q a b) = x (ix4 0 q a b) := by
  pointwise

/-- The staged mask array is the argument without its unit axis. -/
theorem V_masks (q : Fin 200) (a b : Fin 128) :
    (V m c main_v0 : Vec F S200x128x128 .f32) (ix3 q a b)
      = (m ((c : Thread nD τ).loc main_arg0) : Vec F S1x200x128x128 .f32) (ix4 0 q a b) := by
  have e : (V m c main_v0 : Vec F S200x128x128 .f32)
      = shapeCast S200x128x128 (m ((c : Thread nD τ).loc main_arg0) : Vec F S1x200x128x128 .f32)
          shapeCasts_S1x200x128x128_S200x128x128 := by
    show StableHlo.after hostOps0 (fun b => m (c, b)) (Proc.devRef .tc main_v0) = _
    after_results
    rfl
  rw [e]
  exact drop_unit _ q a b

theorem V_cst : (V m c main_cst : Vec F S512x128 .bf16) = fun i => FloatOps.ofBits .bf16 (lit0 (S512x128.rowMajor i)) := by
  show StableHlo.after hostOps0 (fun b => m (c, b)) (Proc.devRef .tc main_cst) = _
  after_results
  rfl

theorem V_cst_0 : (V m c main_cst_0 : Vec F S128x512 .bf16) = fun i => FloatOps.ofBits .bf16 (lit1 (S128x512.rowMajor i)) := by
  show StableHlo.after hostOps0 (fun b => m (c, b)) (Proc.devRef .tc main_cst_0) = _
  after_results
  rfl

end generic

theorem word_toNat : ∀ (n r : Fin 10),
    (Scalar.addi (Scalar.muli 10#32 (BitVec.ofNat 32 n.val)) (BitVec.ofNat 32 r.val)).toNat = 10 * n.val + r.val := by
  decide

theorem coords_val : ∀ t : Fin grid0.N, (grid0.coords t 0).val = t.val := by decide

/-- The mask of row `r` of step `t`. -/
def maskNo (t : Fin grid0.N) (r : Fin 10) : Fin 100 := ⟨10 * t.val + r.val, by
  have : t.val < 10 := N_0 ▸ t.isLt
  omega⟩

section blocks

variable {F : FTy → Type} [FloatOps F] (m : (ℓ : Loc nD τ sig) → Buf (Elt F) ℓ) (hO : Ok m) (c : Dev nD)
  (t : Fin grid0.N)

theorem off_word (r : Fin 10) : k0_off1 (grid0.coords t) (BitVec.ofNat 32 r.val) 0 = 10 * t.val + r.val :=
  (word_toNat (grid0.coords t 0) r).trans (by rw [coords_val t])

/-- The table's word at the mask of row `r` of step `t`. -/
theorem tbl_at (r : Fin 10) (h1) :
    (tbl m).at 0 (Rect.unit (s := S100) (k0_off1 (grid0.coords t) (BitVec.ofNat 32 r.val)) S1.size (k0_off1_inb (grid0.coords t) r)) h1
      = (m (((0 : Dev nD) : Thread nD τ).loc main_arg1) : IVec S100 32) (ix1 (maskNo t r)) := by
  show (V m 0 main_arg1 : IVec S100 32) ((Rect.unit (s := S100) (k0_off1 (grid0.coords t) (BitVec.ofNat 32 r.val)) S1.size (k0_off1_inb (grid0.coords t) r)).point h1) = _
  rw [V_main_arg1]
  refine congrArg _ ((eq_ix1 _).trans (congrArg ix1 (Fin.ext ?_)))
  show k0_off1 (grid0.coords t) (BitVec.ofNat 32 r.val) 0 + 1 * 0 = 10 * t.val + r.val
  rw [off_word]
  rfl

/-- An array entry under a block of one row of the mask array, `q` its row. -/
theorem stage_row (e : S1x128x128.Idx → S200x128x128.Idx) (q : Nat)
    (he : ∀ y a, (e y a).val = (![q, (0#32).toNat, (0#32).toNat] : Fin 3 → Nat) a * S1x128x128.size a + (y a).val)
    (Q : Fin 200) (hq : q = Q.val) (a b : Fin 128) :
    (V m c main_v0 : Vec F S200x128x128 .f32) (e (ix3 0 a b))
      = (m ((c : Thread nD τ).loc main_arg0) : Vec F S1x200x128x128 .f32) (ix4 0 Q a b) := by
  refine Eq.trans (congrArg _ ?_) (V_masks m c Q a b)
  refine funext fun d => Fin.ext ((he _ d).trans ?_)
  fin_cases d
  · show q * 1 + 0 = Q.val; omega
  · show 0 * 128 + a.val = a.val; omega
  · show 0 * 128 + b.val = b.val; omega

/-- The step's ten mask blocks. -/
def blocks : Fin 10 → Vec F S1x128x128 .f32 :=
  ![iblk m hO c 0 t, iblk m hO c 1 t, iblk m hO c 2 t, iblk m hO c 3 t, iblk m hO c 4 t, iblk m hO c 5 t,
    iblk m hO c 6 t, iblk m hO c 7 t, iblk m hO c 8 t, iblk m hO c 9 t]

/-- Block `r` is the row of the mask array that the table names for mask `10 t + r`. -/
theorem blocks_apply (r : Fin 10) (Q : Fin 200)
    (hQ : ((m (((0 : Dev nD) : Thread nD τ).loc main_arg1) : IVec S100 32) (ix1 (maskNo t r))).toNat = Q.val)
    (a b : Fin 128) :
    blocks m hO c t r (ix3 0 a b)
      = (m ((c : Thread nD τ).loc main_arg0) : Vec F S1x200x128x128 .f32) (ix4 0 Q a b) := by
  have key := (congrArg BitVec.toNat (tbl_at m t r numel1_S1)).trans hQ
  fin_cases r
  · exact stage_row m c _ _ (fun y d => Pipeline.Window.rect_emb_val ((cfgM m hO).win 0) t y d) Q key a b
  · exact stage_row m c _ _ (fun y d => Pipeline.Window.rect_emb_val ((cfgM m hO).win 1) t y d) Q key a b
  · exact stage_row m c _ _ (fun y d => Pipeline.Window.rect_emb_val ((cfgM m hO).win 2) t y d) Q key a b
  · exact stage_row m c _ _ (fun y d => Pipeline.Window.rect_emb_val ((cfgM m hO).win 3) t y d) Q key a b
  · exact stage_row m c _ _ (fun y d => Pipeline.Window.rect_emb_val ((cfgM m hO).win 4) t y d) Q key a b
  · exact stage_row m c _ _ (fun y d => Pipeline.Window.rect_emb_val ((cfgM m hO).win 5) t y d) Q key a b
  · exact stage_row m c _ _ (fun y d => Pipeline.Window.rect_emb_val ((cfgM m hO).win 6) t y d) Q key a b
  · exact stage_row m c _ _ (fun y d => Pipeline.Window.rect_emb_val ((cfgM m hO).win 7) t y d) Q key a b
  · exact stage_row m c _ _ (fun y d => Pipeline.Window.rect_emb_val ((cfgM m hO).win 8) t y d) Q key a b
  · exact stage_row m c _ _ (fun y d => Pipeline.Window.rect_emb_val ((cfgM m hO).win 9) t y d) Q key a b

/-- A window over the whole of an array stages the array. -/
theorem whole_apply {s : Shape} {α : Type} (x : s.Idx → α) (e : s.Idx → s.Idx) (ix : Fin s.rank → Nat)
    (h0 : ∀ a, ix a = 0) (he : ∀ y a, (e y a).val = ix a * s.size a + (y a).val) : (fun y => x (e y)) = x :=
  funext fun y => congrArg x (funext fun a => Fin.ext ((he y a).trans (by rw [h0]; omega)))

theorem stage_cst : (iblk m hO c 10 t : Vec F S512x128 .bf16) = (V m c main_cst : Vec F S512x128 .bf16) := by
  have H : ∀ A : Vec F S512x128 .bf16, (((cfgM m hO).win 10).blk t).view.read (Elt F) A = A := fun A =>
    whole_apply (s := S512x128) A (fun y => (((cfgM m hO).win 10).rect t).emb y) ![(0#32).toNat, (0#32).toNat]
      (fun a => by fin_cases a <;> rfl) (fun y d => Pipeline.Window.rect_emb_val ((cfgM m hO).win 10) t y d)
  exact H _

theorem stage_cst_0 : (iblk m hO c 11 t : Vec F S128x512 .bf16) = (V m c main_cst_0 : Vec F S128x512 .bf16) := by
  have H : ∀ A : Vec F S128x512 .bf16, (((cfgM m hO).win 11).blk t).view.read (Elt F) A = A := fun A =>
    whole_apply (s := S128x512) A (fun y => (((cfgM m hO).win 11).rect t).emb y) ![(0#32).toNat, (0#32).toNat]
      (fun a => by fin_cases a <;> rfl) (fun y d => Pipeline.Window.rect_emb_val ((cfgM m hO).win 11) t y d)
  exact H _

/-- Row `r` of the step's block of top values is row `10 t + r` of the array. -/
theorem stage_tv (r : Fin 10) (l : Fin 128) :
    tvRow (iblk m hO c 12 t : Vec F S10x1x128 .f32) r (ix3 0 0 l)
      = (m ((c : Thread nD τ).loc main_arg2) : Vec F S100x1x128 .f32) (ix3 (maskNo t r) 0 l) := by
  have he := fun (y : S10x1x128.Idx) d => Pipeline.Window.rect_emb_val ((cfgM m hO).win 12) t y d
  refine Eq.trans (congrArg (V m c main_arg2) ?_) (congrFun (V_main_arg2 m c) _)
  refine funext fun d => Fin.ext ((he _ d).trans ?_)
  have hc : (BitVec.ofNat 32 (grid0.coords t 0).val).toNat = t.val := by
    rw [coords_val, BitVec.toNat_ofNat]
    have : t.val < 10 := N_0 ▸ t.isLt
    omega
  fin_cases d
  · show (BitVec.ofNat 32 (grid0.coords t 0).val).toNat * 10 + (r.val + 1 * 0) = 10 * t.val + r.val
    rw [hc]; omega
  · rfl
  · show 0 * 128 + (0 + 1 * l.val) = l.val; omega

/-- Where a block of ten rows sits: row `r` of step `t` is row `10 t + r`. -/
theorem tenRows_emb {n1 n2 : Nat} (e : (⟨3, ![10, n1, n2]⟩ : Shape).Idx → (⟨3, ![100, n1, n2]⟩ : Shape).Idx)
    (he : ∀ y a, (e y a).val = (![(BitVec.ofNat 32 (grid0.coords t 0).val).toNat, (0#32).toNat, (0#32).toNat] : Fin 3 → Nat) a
      * (⟨3, ![10, n1, n2]⟩ : Shape).size a + (y a).val) (y : (⟨3, ![10, n1, n2]⟩ : Shape).Idx) :
    e y = ix3 (maskNo t (y 0)) (y 1) (y 2) := by
  have hc : (BitVec.ofNat 32 (grid0.coords t 0).val).toNat = t.val := by
    rw [coords_val, BitVec.toNat_ofNat]
    have : t.val < 10 := N_0 ▸ t.isLt
    omega
  refine funext fun d => Fin.ext ((he y d).trans ?_)
  fin_cases d
  · show (BitVec.ofNat 32 (grid0.coords t 0).val).toNat * 10 + (y 0).val = 10 * t.val + (y 0).val
    rw [hc]; omega
  · show 0 * n1 + (y 1).val = (y 1).val; omega
  · show 0 * n2 + (y 2).val = (y 2).val; omega

end blocks

end Cert.Resize

end
-- ==== Proof.MaskLits.lean ====
/-
  The kernel's two constant arrays are the resize weights: every word of the [512,128] table is the bf16 word of the
  weight of input sample (column) at output sample (row), and the [128,512] table is its transpose.

  The program names a table of 65536 words as a tree of selections by the index's digits (base 128, three levels).
  `tree g` is that tree with `g` in its leaves; a table is `tree g` when its words are `g`'s, leaf by leaf, and the tree
  at an index is `g` at the digits.
-/
module

public import proofs.«01_k».proof.Proof.MaskMath
public import Idealize.ShloMosaic.Lib.Tactic

@[expose] public section

noncomputable section

namespace Cert.Resize

open Idealize.ShloMosaic Idealize.ShloMosaic.Tactic
open Cert.MasksIdeal Cert.MasksIdeal.Gen

/-- The selection by one digit of base 128. -/
def sel (n : Nat) (f : Nat → BitVec 16) : BitVec 16 := match n with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#16

set_option maxRecDepth 20000 in
theorem sel_eq (f : Nat → BitVec 16) (n : Fin 128) : sel n f = f n := by
  fin_cases n <;> rfl

/-- The selection by the leading digit, which takes four values. -/
def selTop (n : Nat) (f : Nat → BitVec 16) : BitVec 16 := match n with
  | 0 => f 0 | 1 => f 1 | 2 => f 2 | 3 => f 3
  | _ => 0#16

/-- The tree of selections with `g row column` in its leaves, the rows being of 128 words. -/
def tree (g : Nat → Nat → BitVec 16) (n : Nat) : BitVec 16 :=
  selTop (n / 16384) fun k => sel (n / 128 % 128) fun r => sel (n % 128) fun d => g (128 * k + r) d

theorem tree_eq (g : Nat → Nat → BitVec 16) (n : Nat) (h : n < 65536) : tree g n = g (n / 128) (n % 128) := by
  have top : ∀ (f : Nat → BitVec 16) (k : Nat), k < 4 → selTop k f = f k := fun f k hk => by
    interval_cases k <;> rfl
  unfold tree
  rw [top _ _ (by omega), sel_eq _ ⟨n / 128 % 128, by omega⟩, sel_eq _ ⟨n % 128, by omega⟩]
  dsimp only
  congr 1
  omega

set_option maxRecDepth 20000 in
theorem lit0_tree (n : Nat) : lit0t n = tree (fun j i => enc (wN i j)) n := by sl_kernel_rfl

set_option maxRecDepth 20000 in
theorem lit1_tree (n : Nat) : lit1t n = tree (fun r d => enc (wN (r / 4) (r % 4 * 128 + d))) n := by sl_kernel_rfl

theorem lit0_words (j : Fin 512) (i : Fin 128) (n : Fin 65536) (h : n.val = 128 * j.val + i.val) :
    lit0 n = enc (wN i j) := by
  show lit0t n.val = _
  rw [lit0_tree, tree_eq _ _ n.isLt, h]
  congr 2 <;> omega

theorem lit1_words (i : Fin 128) (j : Fin 512) (n : Fin 65536) (h : n.val = 512 * i.val + j.val) :
    lit1 n = enc (wN i j) := by
  show lit1t n.val = _
  rw [lit1_tree, tree_eq _ _ n.isLt, h]
  congr 2 <;> omega

end Cert.Resize

end
-- ==== Proof.MaskKernel.lean ====
/-
  What the kernel's result arrays hold at the end, in closed form: mask `k`'s bit at `(p, q)` is whether its resized
  value there is positive, and its score is the top value times the mean sigmoid over the positive pixels.
-/
module

public import proofs.«01_k».proof.Proof.MaskArrays
public import proofs.«01_k».proof.Proof.MaskLits
public import Idealize.ShloMosaic.Lib.Pipeline.FrameTail

@[expose] public section

set_option maxRecDepth 16384

noncomputable section

namespace Cert.Resize

open Idealize.ShloMosaic Idealize.ShloMosaic.TcCoe Idealize.SL.Sem
open Cert.MasksIdeal Cert.MasksIdeal.Gen

variable (m : (ℓ : Loc nD τ sig) → Buf (Elt Ideal) ℓ) (hO : Ok m) (c : Dev nD)

theorem stage_u (t : Fin grid0.N) : (iblk m hO c 10 t : Vec Ideal S512x128 .bf16) = uTab :=
  (stage_cst m hO c t).trans ((V_cst m c).trans (funext fun i => by
    rw [lit0_words (i 0) (i 1) _ ((Shape.rowMajor_val_two i).trans (by show (i 0).val * 128 + (i 1).val = _; omega))]
    exact ofBits_enc_wN (i 1) (i 0)))

theorem stage_ut (t : Fin grid0.N) : (iblk m hO c 11 t : Vec Ideal S128x512 .bf16) = utTab :=
  (stage_cst_0 m hO c t).trans ((V_cst_0 m c).trans (funext fun i => by
    rw [lit1_words (i 0) (i 1) _ ((Shape.rowMajor_val_two i).trans (by show (i 0).val * 512 + (i 1).val = _; omega))]
    exact ofBits_enc_wN (i 0) (i 1)))

variable (X : Fin 200 → Fin 128 → Fin 128 → ℝ) (Q : Fin 100 → Fin 200)

/-- The mask bits as the kernel stores them, one word each. -/
def bitsOf : S100x512x512.Idx → BitVec 32 := fun y => (BitVec.ofBool (decide (0 < zR (X (Q (y 0))) (y 1) (y 2)))).setWidth 32

/-- The scores as the kernel stores them, one row of equal lanes for each mask's row of top values. -/
def scoresOf (T : S100x1x128.Idx → EReal) : S100x1x128.Idx → EReal := fun y => T (ix3 (y 0) 0 (y 2)) * meanE (X (Q (y 0)))

variable
  (hX : ∀ q a b, (m ((c : Thread nD τ).loc main_arg0) : Vec Ideal S1x200x128x128 .f32) (ix4 0 q a b) = ((X q a b : ℝ) : EReal))
  (hQ : ∀ k, (m ((c : Thread nD τ).loc main_arg1) : IVec S100 32) (ix1 k) = BitVec.ofNat 32 (Q k).val)

include hX hQ in
theorem blocks_real (t : Fin grid0.N) (r : Fin 10) (a b : Fin 128) :
    blocks m hO c t r (ix3 0 a b) = ((X (Q (maskNo t r)) a b : ℝ) : EReal) := by
  obtain rfl : c = 0 := Subsingleton.elim _ _
  refine (blocks_apply m hO 0 t r (Q (maskNo t r)) ?_ a b).trans (hX _ a b)
  rw [hQ, BitVec.toNat_ofNat]
  have := (Q (maskNo t r)).isLt
  omega

theorem outs_fst (t : Fin (cfgM m hO).N) : (outsAt0 m hO c t).1 = out0_A_13 c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (ms0_6 m hO t)
      (hs0_6 m hO t) (ms0_7 m hO t) (hs0_7 m hO t) (ms0_8 m hO t) (hs0_8 m hO t) (ms0_9 m hO t) (hs0_9 m hO t)
      (ms0_10 m hO t) (hs0_10 m hO t) (ms0_11 m hO t) (hs0_11 m hO t) (ms0_12 m hO t) (hs0_12 m hO t) (ms0_13 m hO
      t) (hs0_13 m hO t) (ms0_14 m hO t) (hs0_14 m hO t) (iblk m hO c 0 t) (iblk m hO c 1 t) (iblk m hO c 2 t)
      (iblk m hO c 3 t) (iblk m hO c 4 t) (iblk m hO c 5 t) (iblk m hO c 6 t) (iblk m hO c 7 t) (iblk m hO c 8 t)
      (iblk m hO c 9 t) (iblk m hO c 10 t) (iblk m hO c 11 t) (iblk m hO c 12 t) (tbl m 0) := by
  unfold outsAt0
  dsimp only

theorem outs_snd (t : Fin (cfgM m hO).N) : (outsAt0 m hO c t).2 = out0_A_14 c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (ms0_6 m hO t)
      (hs0_6 m hO t) (ms0_7 m hO t) (hs0_7 m hO t) (ms0_8 m hO t) (hs0_8 m hO t) (ms0_9 m hO t) (hs0_9 m hO t)
      (ms0_10 m hO t) (hs0_10 m hO t) (ms0_11 m hO t) (hs0_11 m hO t) (ms0_12 m hO t) (hs0_12 m hO t) (ms0_13 m hO
      t) (hs0_13 m hO t) (ms0_14 m hO t) (hs0_14 m hO t) (iblk m hO c 0 t) (iblk m hO c 1 t) (iblk m hO c 2 t)
      (iblk m hO c 3 t) (iblk m hO c 4 t) (iblk m hO c 5 t) (iblk m hO c 6 t) (iblk m hO c 7 t) (iblk m hO c 8 t)
      (iblk m hO c 9 t) (iblk m hO c 10 t) (iblk m hO c 11 t) (iblk m hO c 12 t) (tbl m 0) := by
  unfold outsAt0
  dsimp only

/-- The first output of a step in terms of the blocks it stages. -/
theorem outs_bits (t : Fin (cfgM m hO).N) (y : S10x512x512.Idx) : (outsAt0 m hO c t).1 y
    = k0_pay4 (iblk m hO c 10 t) (iblk m hO c 11 t) (blocks m hO c t (y 0)) (ix3 0 (y 1) (y 2)) :=
  (congrFun (outs_fst m hO c t) y).trans (out13_apply (F := Ideal) c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (ms0_6 m hO t)
      (hs0_6 m hO t) (ms0_7 m hO t) (hs0_7 m hO t) (ms0_8 m hO t) (hs0_8 m hO t) (ms0_9 m hO t) (hs0_9 m hO t)
      (ms0_10 m hO t) (hs0_10 m hO t) (ms0_11 m hO t) (hs0_11 m hO t) (ms0_12 m hO t) (hs0_12 m hO t) (ms0_13 m hO
      t) (hs0_13 m hO t) (ms0_14 m hO t) (hs0_14 m hO t) (iblk m hO c 0 t) (iblk m hO c 1 t) (iblk m hO c 2 t)
      (iblk m hO c 3 t) (iblk m hO c 4 t) (iblk m hO c 5 t) (iblk m hO c 6 t) (iblk m hO c 7 t) (iblk m hO c 8 t)
      (iblk m hO c 9 t) (iblk m hO c 10 t) (iblk m hO c 11 t) (iblk m hO c 12 t) (tbl m 0) y)

/-- The second output of a step in terms of the blocks it stages. -/
theorem outs_scores (t : Fin (cfgM m hO).N) (y : S10x1x128.Idx) : (outsAt0 m hO c t).2 y
    = k0_pay7 (k0_pay5 (iblk m hO c 10 t) (iblk m hO c 11 t) (blocks m hO c t (y 0)))
        (k0_pay6 (iblk m hO c 10 t) (iblk m hO c 11 t) (blocks m hO c t (y 0))) (tvRow (iblk m hO c 12 t) (y 0))
        (ix3 0 0 (y 2)) :=
  (congrFun (outs_snd m hO c t) y).trans (out14_apply (F := Ideal) c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (ms0_6 m hO t)
      (hs0_6 m hO t) (ms0_7 m hO t) (hs0_7 m hO t) (ms0_8 m hO t) (hs0_8 m hO t) (ms0_9 m hO t) (hs0_9 m hO t)
      (ms0_10 m hO t) (hs0_10 m hO t) (ms0_11 m hO t) (hs0_11 m hO t) (ms0_12 m hO t) (hs0_12 m hO t) (ms0_13 m hO
      t) (hs0_13 m hO t) (ms0_14 m hO t) (hs0_14 m hO t) (iblk m hO c 0 t) (iblk m hO c 1 t) (iblk m hO c 2 t)
      (iblk m hO c 3 t) (iblk m hO c 4 t) (iblk m hO c 5 t) (iblk m hO c 6 t) (iblk m hO c 7 t) (iblk m hO c 8 t)
      (iblk m hO c 9 t) (iblk m hO c 10 t) (iblk m hO c 11 t) (iblk m hO c 12 t) (tbl m 0) y)

include hX hQ in
theorem step_bits (t : Fin grid0.N) (y : S10x512x512.Idx) :
    (outsAt0 m hO c t).1 y = bitsOf X Q (ix3 (maskNo t (y 0)) (y 1) (y 2)) :=
  (outs_bits m hO c t y).trans
    ((congrArg₂ (fun u v => k0_pay4 u v (blocks m hO c t (y 0)) (ix3 0 (y 1) (y 2))) (stage_u m hO c t) (stage_ut m hO c t)).trans
      (pay4_apply (blocks m hO c t (y 0)) (X (Q (maskNo t (y 0)))) (blocks_real m hO c X Q hX hQ t (y 0)) (y 1) (y 2)))

include hX hQ in
theorem step_scores (t : Fin grid0.N) (y : S10x1x128.Idx) :
    (outsAt0 m hO c t).2 y = scoresOf X Q (m ((c : Thread nD τ).loc main_arg2)) (ix3 (maskNo t (y 0)) (y 1) (y 2)) := by
  have hb := blocks_real m hO c X Q hX hQ t (y 0)
  refine (outs_scores m hO c t y).trans
    ((congrArg₂ (fun u v => k0_pay7 (k0_pay5 u v (blocks m hO c t (y 0))) (k0_pay6 u v (blocks m hO c t (y 0)))
      (tvRow (iblk m hO c 12 t) (y 0)) (ix3 0 0 (y 2))) (stage_u m hO c t) (stage_ut m hO c t)).trans ?_)
  refine (pay7_apply (X (Q (maskNo t (y 0)))) _ _ (pay5_apply (blocks m hO c t (y 0)) _ hb)
    (pay6_apply (blocks m hO c t (y 0)) _ hb) _ (y 2)).trans ?_
  exact congrArg (· * meanE (X (Q (maskNo t (y 0))))) (stage_tv m hO c t (y 0) (y 2))

end Cert.Resize

end
-- ==== Proof.MaskRun.lean ====
/-
  From the steps' outputs to the whole result arrays, and through the host operations after the kernel: the bits and
  the scores the program returns.
-/
module

public import proofs.«01_k».proof.Proof.MaskKernel

@[expose] public section

set_option maxRecDepth 16384

noncomputable section

namespace Cert.Resize

open Idealize.ShloMosaic Idealize.ShloMosaic.TcCoe Idealize.SL.Sem
open Cert.MasksIdeal Cert.MasksIdeal.Gen

variable (m : (ℓ : Loc nD τ sig) → Buf (Elt Ideal) ℓ) (hO : Ok m) (c : Dev nD)
  (X : Fin 200 → Fin 128 → Fin 128 → ℝ) (Q : Fin 100 → Fin 200)
  (hX : ∀ q a b, (m ((c : Thread nD τ).loc main_arg0) : Vec Ideal S1x200x128x128 .f32) (ix4 0 q a b) = ((X q a b : ℝ) : EReal))
  (hQ : ∀ k, (m ((c : Thread nD τ).loc main_arg1) : IVec S100 32) (ix1 k) = BitVec.ofNat 32 (Q k).val)

/-- Where row `y` of step `t`'s block of bits sits in the result. -/
theorem emb13 (t : Fin grid0.N) (y : S10x512x512.Idx) :
    (((cfgM m hO).win 13).rect t).emb y = ix3 (maskNo t (y 0)) (y 1) (y 2) :=
  tenRows_emb t (fun y => (((cfgM m hO).win 13).rect t).emb y)
    (fun y d => Pipeline.Window.rect_emb_val ((cfgM m hO).win 13) t y d) y

/-- Where row `y` of step `t`'s block of scores sits in the result. -/
theorem emb14 (t : Fin grid0.N) (y : S10x1x128.Idx) :
    (((cfgM m hO).win 14).rect t).emb y = ix3 (maskNo t (y 0)) (y 1) (y 2) :=
  tenRows_emb t (fun y => (((cfgM m hO).win 14).rect t).emb y)
    (fun y d => Pipeline.Window.rect_emb_val ((cfgM m hO).win 14) t y d) y

/-- The step that handles mask `k`, and the mask's row in it. -/
def stepOf (k : Fin 100) : Fin grid0.N := ⟨k.val / 10, by have := N_0; omega⟩
def rowOf (k : Fin 100) : Fin 10 := ⟨k.val % 10, by omega⟩

theorem maskNo_stepOf (k : Fin 100) : maskNo (stepOf k) (rowOf k) = k :=
  Fin.ext (show 10 * (k.val / 10) + k.val % 10 = k.val by omega)

theorem cover13 (i : S100x512x512.Idx) :
    ∃ t : Fin (cfgM m hO).N, ((cfgM m hO).win 13).flush t = true ∧ i ∈ (((cfgM m hO).win 13).blk t).view.set := by
  refine ⟨stepOf (i 0), flush0_13 (adm m hO) _, ?_⟩
  have e : (((cfgM m hO).win 13).blk (stepOf (i 0))).view.emb (ix3 (rowOf (i 0)) (i 1) (i 2)) = i :=
    (emb13 m hO (stepOf (i 0)) (ix3 (rowOf (i 0)) (i 1) (i 2))).trans
      ((congrArg (fun k => ix3 k (i 1) (i 2)) (maskNo_stepOf (i 0))).trans (eq_ix3 i).symm)
  have h := View.emb_mem_set (((cfgM m hO).win 13).blk (stepOf (i 0))).view (ix3 (rowOf (i 0)) (i 1) (i 2))
  rw [e] at h
  exact h

theorem cover14 (i : S100x1x128.Idx) :
    ∃ t : Fin (cfgM m hO).N, ((cfgM m hO).win 14).flush t = true ∧ i ∈ (((cfgM m hO).win 14).blk t).view.set := by
  refine ⟨stepOf (i 0), flush0_14 (adm m hO) _, ?_⟩
  have e : (((cfgM m hO).win 14).blk (stepOf (i 0))).view.emb (ix3 (rowOf (i 0)) (i 1) (i 2)) = i :=
    (emb14 m hO (stepOf (i 0)) (ix3 (rowOf (i 0)) (i 1) (i 2))).trans
      ((congrArg (fun k => ix3 k (i 1) (i 2)) (maskNo_stepOf (i 0))).trans (eq_ix3 i).symm)
  have h := View.emb_mem_set (((cfgM m hO).win 14).blk (stepOf (i 0))).view (ix3 (rowOf (i 0)) (i 1) (i 2))
  rw [e] at h
  exact h

include hX hQ in
theorem final_bits : (dats m hO 0 c).arrAt 13 (cfgM m hO).N = bitsOf X Q := by
  refine (dats m hO 0 c).arrAt_eq_of_cover 13 (bitsOf X Q) (fun t _ => ?_) (fun i => ?_)
  · refine funext fun y => ?_
    show (dats m hO 0 c).after 13 t y = bitsOf X Q ((((cfgM m hO).win 13).rect t).emb y)
    exact (congrFun (after0_13 m hO c t) y).trans ((step_bits m hO c X Q hX hQ t y).trans
      (congrArg (bitsOf X Q) (emb13 m hO t y)).symm)
  · exact cover13 m hO i

include hX hQ in
theorem final_scores : (dats m hO 0 c).arrAt 14 (cfgM m hO).N = scoresOf X Q (m ((c : Thread nD τ).loc main_arg2)) := by
  refine (dats m hO 0 c).arrAt_eq_of_cover 14 (scoresOf X Q (m ((c : Thread nD τ).loc main_arg2))) (fun t _ => ?_) (fun i => ?_)
  · refine funext fun y => ?_
    show (dats m hO 0 c).after 14 t y = scoresOf X Q (m ((c : Thread nD τ).loc main_arg2)) ((((cfgM m hO).win 14).rect t).emb y)
    exact (congrFun (after0_14 m hO c t) y).trans ((step_scores m hO c X Q hX hQ t y).trans
      (congrArg (scoresOf X Q (m ((c : Thread nD τ).loc main_arg2))) (emb14 m hO t y)).symm)
  · exact cover14 m hO i

/-- The program's memory when the host operations after the kernel start. -/
abbrev exitV : Valuation τ sig (Elt Ideal) :=
  Pipeline.withArrays (Pipeline.pin pcfgs (fun _ => adm m hO) 0).spec c (V0 m c) fun w => (dats m hO 0 c).arrAt w (Pipeline.pin pcfgs (fun _ => adm m hO) 0).N

theorem exit_arr (w) : exitV m hO c (Proc.devRef .tc (Pipeline.arrRef spec0 w)) = (dats m hO 0 c).arrAt w (cfgM m hO).N :=
  Pipeline.withArrays_arr_shared spec0 c (V0 m c) (fun w => (dats m hO 0 c).arrAt w (cfgM m hO).N)
    ((dats m hO 0 c).arrAt_sharedIn sharedIn0 (V0 m c) (A_eq m hO c) _) w

theorem tail_bits (W : Valuation τ sig (Elt Ideal)) (p : S100x512x512.Idx → Bool)
    (h : ∀ y, (W (Proc.devRef .tc main_v1_0) : IVec S100x512x512 32) y = (BitVec.ofBool (p y)).setWidth 32) :
    (StableHlo.after hostOps1 W (Proc.devRef .tc main_v4) : IVec S100x512x512 1) = fun y => BitVec.ofBool (p y) := by
  have e : (StableHlo.after hostOps1 W (Proc.devRef .tc main_v4) : IVec S100x512x512 1)
      = cmpi .ne (W (Proc.devRef .tc main_v1_0)) (broadcastInDim S100x512x512 ![] bcast_S_S100x512x512 (constantI S_ 32 0#32)) := by
    after_results
    try rfl
  rw [e]
  refine funext fun y => ?_
  generalize hw : (W (Proc.devRef .tc main_v1_0) : IVec S100x512x512 32) = A at h ⊢
  pointwise
  rw [h]
  cases p y <;> rfl

theorem tail_scores (W : Valuation τ sig (Elt Ideal)) (k : Fin 100) :
    (StableHlo.after hostOps1 W (Proc.devRef .tc main_v6) : Vec Ideal S100 .f32) (ix1 k)
      = (W (Proc.devRef .tc main_v1_1) : Vec Ideal S100x1x128 .f32) (ix3 k 0 0) := by
  have e : (StableHlo.after hostOps1 W (Proc.devRef .tc main_v6) : Vec Ideal S100 .f32)
      = shapeCast _ (extractStridedSlice S100x1x1 ![0, 0, 0] (W (Proc.devRef .tc main_v1_1)) slices_S100x1x128_S100x1x1_0_0_0) shapeCasts_S100x1x1_S100 := by
    after_results
    try rfl
  rw [e]
  generalize (W (Proc.devRef .tc main_v1_1) : Vec Ideal S100x1x128 .f32) = A
  pointwise

/-- The contents the program's buffer `b` ends with, for a buffer no window of the kernel stages. -/
abbrev endV (b : Ref sig .tc) : Buf (Elt Ideal) ((c : Thread nD τ).loc b) :=
  Pipeline.afterTail pcfgs (fun _ => adm m hO) (dats m hO) 0 (V0 m) [hostOps1] c b

include hX hQ in
/-- The mask bits the program returns. -/
theorem result_bits : (endV m hO c main_v4 : IVec S100x512x512 1)
    = fun y => BitVec.ofBool (decide (0 < zR (X (Q (y 0))) (y 1) (y 2))) :=
  tail_bits (exitV m hO c) (fun y => decide (0 < zR (X (Q (y 0))) (y 1) (y 2)))
    (fun y => congrFun ((exit_arr m hO c 13).trans (final_bits m hO c X Q hX hQ)) y)

include hX hQ in
/-- The scores the program returns. -/
theorem result_scores (k : Fin 100) :
    (endV m hO c main_v6 : Vec Ideal S100 .f32) (ix1 k)
      = scoresOf X Q (m ((c : Thread nD τ).loc main_arg2)) (ix3 k 0 0) :=
  (tail_scores (exitV m hO c) k).trans
    (congrFun ((exit_arr m hO c 14).trans (final_scores m hO c X Q hX hQ)) (ix3 k 0 0))

/-- The run of the program: what its two results hold. -/
theorem run_results (ρ : Dev nD → PrngReg) :
    θ_run defs (onTc (τ := τ) (main (F := Ideal))) ⟨m, fun _ => 0, ρ⟩ fun r => ∀ c : Dev nD,
      r.2.mem ((c : Thread nD τ).loc main_v6) = endV m hO c main_v6
        ∧ r.2.mem ((c : Thread nD τ).loc main_v4) = endV m hO c main_v4 :=
  (θ_run defs _ _).mono (fun _ h c => ⟨(h c).2 main_v6 (by decide : main_v6 ∈ Pipeline.restRefs sig spec0),
    (h c).2 main_v4 (by decide : main_v4 ∈ Pipeline.restRefs sig spec0)⟩) (run_main m ρ hO)

/-- The run of the program: what it returns, and its arguments unchanged. -/
theorem run_masks (ρ : Dev nD → PrngReg) :
    θ_run defs (onTc (τ := τ) (main (F := Ideal))) ⟨m, fun _ => 0, ρ⟩ fun r => ∀ c : Dev nD,
      r.2.mem ((c : Thread nD τ).loc main_v6) = endV m hO c main_v6
        ∧ r.2.mem ((c : Thread nD τ).loc main_v4) = endV m hO c main_v4
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2) :=
  (θ_run defs _ _).mono (fun _ h c => ⟨(h.1 c).1, (h.1 c).2, h.2 c⟩)
    (θ_run_and (run_results m hO ρ) (unchanged m ρ hO))

end Cert.Resize

end
-- ==== Proof.TopOrder.lean ====
/-
  The order in which scores are picked, apart from any program: positions sorted by falling score with the earlier
  position first among equals, and a pick of the largest score left, first row and then first column, which finds the
  next position of that order.
-/
module

public import Idealize.ShloMosaic.Lib.SortFacts
public import Idealize.ShloMosaic.PureOps.Ideal

@[expose] public section

noncomputable section

namespace Cert.Pick

open Idealize.ShloMosaic

section Sorted

variable {n : Nat} (s : Fin n → EReal)

/-- Position `a` is picked before position `b`: it has the larger score, or the same and stands earlier. -/
def Sooner (a b : Fin n) : Prop := s b < s a ∨ (s a = s b ∧ a < b)

theorem Sooner.trans {a b c : Fin n} (h : Sooner s a b) (h' : Sooner s b c) : Sooner s a c := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- The comparison of the sort: the larger score first. -/
def larger (a b : Fin n) : Bool := decide (s b < s a)

theorem insert_sooner (a : Fin n) (l : List (Fin n)) (ha : ∀ b ∈ l, a < b) (hl : l.Pairwise (Sooner s)) :
    (insertBefore (larger s) a l).Pairwise (Sooner s) := by
  induction l with
  | nil => simp [insertBefore]
  | cons b l ih =>
    rw [List.pairwise_cons] at hl
    rw [insertBefore]
    by_cases hb : larger s b a = true
    · rw [if_pos hb, List.pairwise_cons]
      refine ⟨fun x hx => ?_, ih (fun x hx => ha x (by simp [hx])) hl.2⟩
      rcases List.mem_cons.1 ((perm_insertBefore _ a l).mem_iff.1 hx) with rfl | hx
      · exact .inl (by simpa [larger] using hb)
      · exact hl.1 x hx
    · have hab : Sooner s a b := by
        have : s b ≤ s a := by simpa [larger] using hb
        rcases this.lt_or_eq with h | h
        · exact .inl h
        · exact .inr ⟨h.symm, ha b (by simp)⟩
      rw [if_neg hb, List.pairwise_cons, List.pairwise_cons]
      refine ⟨fun x hx => ?_, hl⟩
      rcases List.mem_cons.1 hx with rfl | hx
      · exact hab
      · exact hab.trans s (hl.1 x hx)

theorem sort_sooner (l : List (Fin n)) (hl : l.Pairwise (· < ·)) : (stableSort (larger s) l).Pairwise (Sooner s) := by
  induction l with
  | nil => simp [stableSort]
  | cons a l ih =>
    rw [List.pairwise_cons] at hl
    exact insert_sooner s a _ (fun b hb => hl.1 b ((perm_stableSort _ l).mem_iff.1 hb)) (ih hl.2)

/-- The position picked at place `k`. -/
def top (k : Fin n) : Fin n := sortedFrom (larger s) k

theorem top_sooner {i j : Fin n} (h : i < j) : Sooner s (top s i) (top s j) :=
  List.pairwise_iff_get.1 (sort_sooner s _ (List.pairwise_lt_finRange n)) _ _ h

theorem top_inj {i j : Fin n} (h : top s i = top s j) : i = j := sortedFrom_injective _ h

theorem top_surj (q : Fin n) : ∃ i, top s i = q := sortedFrom_surjective _ q

end Sorted

/-- The position of row `r` and column `c`. -/
def flat (r : Fin 200) (c : Fin 133) : Fin 26600 := ⟨r.val * 133 + c.val, by omega⟩

def rowNo (q : Fin 26600) : Fin 200 := ⟨q.val / 133, by omega⟩
def colNo (q : Fin 26600) : Fin 133 := ⟨q.val % 133, Nat.mod_lt _ (by omega)⟩

theorem flat_rowNo_colNo (q : Fin 26600) : flat (rowNo q) (colNo q) = q :=
  Fin.ext (by simp only [flat, rowNo, colNo]; omega)

theorem rowNo_flat (r : Fin 200) (c : Fin 133) : rowNo (flat r c) = r :=
  Fin.ext (by simp only [flat, rowNo]; omega)

theorem colNo_flat (r : Fin 200) (c : Fin 133) : colNo (flat r c) = c :=
  Fin.ext (by simp only [flat, colNo]; omega)

variable (s : Fin 26600 → EReal)

/-- The position is one of the first `k` picked. -/
def Gone (k : Nat) (q : Fin 26600) : Prop := ∃ j : Fin 26600, j.val < k ∧ top s j = q

open Classical in
/-- The table of scores after `k` picks: minus one in place of what is picked, and in the column past the last. -/
def left (k : Nat) (r : Fin 200) (c : Fin 134) : EReal :=
  if h : c.val < 133 then (if Gone s k (flat r ⟨c.val, h⟩) then -1 else s (flat r ⟨c.val, h⟩)) else -1

theorem left_of_not_gone {k : Nat} {q : Fin 26600} (h : ¬ Gone s k q) :
    left s k (rowNo q) ⟨(colNo q).val, by omega⟩ = s q := by
  unfold left
  rw [dif_pos (colNo q).isLt]
  rw [show flat (rowNo q) ⟨(⟨(colNo q).val, by omega⟩ : Fin 134).val, (colNo q).isLt⟩ = q from flat_rowNo_colNo q, if_neg h]

theorem neg_one_lt_zero : (-1 : EReal) < 0 := by
  rw [← EReal.coe_one, ← EReal.coe_neg, ← EReal.coe_zero, EReal.coe_lt_coe_iff]; norm_num

theorem left_ge (hs : ∀ q, 0 ≤ s q) (k : Nat) (r : Fin 200) (c : Fin 134) : -1 ≤ left s k r c := by
  unfold left
  split
  · split
    · exact le_rfl
    · exact neg_one_lt_zero.le.trans (hs _)
  · exact le_rfl

/-- `m` is the largest entry of `f`, and `w` the number of the first column that holds it. -/
def RowTop (f : Fin 134 → EReal) (m : EReal) (w : BitVec 32) : Prop :=
  ∃ c : Fin 134, w = BitVec.ofNat 32 c.val ∧ f c = m ∧ (∀ c', f c' ≤ m) ∧ ∀ c' : Fin 134, c' < c → f c' < m

/-- The first row that holds the largest score left, and in it the first column, are the next position of the order. -/
theorem pick_eq (hs : ∀ q, 0 ≤ s q) (k : Fin 26600) (r : Fin 200) (c : Fin 134)
    (hle : ∀ r' c', left s k.val r' c' ≤ left s k.val r c)
    (hrow : ∀ r' : Fin 200, r' < r → ∀ c', left s k.val r' c' < left s k.val r c)
    (hcol : ∀ c' : Fin 134, c' < c → left s k.val r c' < left s k.val r c) :
    r = rowNo (top s k) ∧ c.val = (colNo (top s k)).val ∧ left s k.val r c = s (top s k) := by
  have hk : ¬ Gone s k.val (top s k) := by
    rintro ⟨j, hj, e⟩
    exact absurd (congrArg Fin.val (top_inj s e)) (by omega)
  have hM : s (top s k) ≤ left s k.val r c := (left_of_not_gone s hk) ▸ hle _ _
  have h0 : 0 ≤ left s k.val r c := (hs _).trans hM
  have hne : left s k.val r c ≠ -1 := fun e => absurd (e ▸ h0) (not_le.2 neg_one_lt_zero)
  have hc : c.val < 133 := by
    by_contra h
    exact hne (by unfold left; rw [dif_neg h])
  have hg : ¬ Gone s k.val (flat r ⟨c.val, hc⟩) := by
    intro h
    exact hne (by unfold left; rw [dif_pos hc, if_pos h])
  have hv : left s k.val r c = s (flat r ⟨c.val, hc⟩) := by unfold left; rw [dif_pos hc, if_neg hg]
  obtain ⟨i, hi⟩ := top_surj s (flat r ⟨c.val, hc⟩)
  have hik : k.val ≤ i.val := by
    by_contra h
    exact hg ⟨i, by omega, hi⟩
  have key : flat r ⟨c.val, hc⟩ = top s k := by
    rcases Nat.lt_or_eq_of_le hik with h | h
    · exfalso
      have hso := top_sooner s (show k < i from h)
      rw [hi] at hso
      rcases hso with h | ⟨e, h⟩
      · rw [hv] at hM
        exact absurd hM (not_le.2 h)
      · have hl := left_of_not_gone s hk
        have hlt : (top s k).val < r.val * 133 + c.val := h
        have h1 : rowNo (top s k) < r ∨ (rowNo (top s k) = r ∧ (colNo (top s k)).val < c.val) := by
          simp only [Fin.lt_def, Fin.ext_iff, rowNo, colNo]; omega
        rcases h1 with h1 | ⟨h1, h2⟩
        · exact absurd (hrow _ h1 ⟨(colNo (top s k)).val, by omega⟩) (by rw [hl, hv, e]; exact lt_irrefl _)
        · have hlt' := hcol ⟨(colNo (top s k)).val, by omega⟩ (by rw [Fin.lt_def]; exact h2)
          rw [h1] at hl
          rw [hl, hv, e] at hlt'
          exact lt_irrefl _ hlt'
    · rw [← hi, show i = k from Fin.ext h.symm]
  refine ⟨?_, ?_, by rw [hv, key]⟩
  · rw [← key, rowNo_flat]
  · rw [← key, colNo_flat]

/-- The table after one more pick. -/
theorem left_succ (k : Fin 26600) (r : Fin 200) (c : Fin 134) :
    left s (k.val + 1) r c
      = if r = rowNo (top s k) ∧ c.val = (colNo (top s k)).val then -1 else left s k.val r c := by
  have hg : ∀ q, Gone s (k.val + 1) q ↔ Gone s k.val q ∨ q = top s k := by
    intro q
    constructor
    · rintro ⟨j, hj, e⟩
      rcases Nat.lt_or_eq_of_le (Nat.le_of_lt_succ hj) with h | h
      · exact .inl ⟨j, h, e⟩
      · exact .inr (by rw [← e, show j = k from Fin.ext h])
    · intro h
      rcases h with ⟨j, hj, e⟩ | e
      · exact ⟨j, by omega, e⟩
      · exact ⟨k, by omega, e.symm⟩
  unfold left
  by_cases hc : c.val < 133
  · simp only [dif_pos hc]
    have hq : (flat r ⟨c.val, hc⟩ = top s k) ↔ (r = rowNo (top s k) ∧ c.val = (colNo (top s k)).val) := by
      constructor
      · intro e; rw [← e, rowNo_flat, colNo_flat]; exact ⟨rfl, rfl⟩
      · rintro ⟨e, e'⟩
        rw [← flat_rowNo_colNo (top s k), e]
        exact congrArg _ (Fin.ext e')
    by_cases h : flat r ⟨c.val, hc⟩ = top s k
    · rw [if_pos ((hg _).2 (.inr h)), if_pos (hq.1 h)]
    · rw [if_neg (fun h' => h (hq.2 h'))]
      by_cases h1 : Gone s k.val (flat r ⟨c.val, hc⟩)
      · rw [if_pos h1, if_pos ((hg _).2 (.inl h1))]
      · rw [if_neg h1, if_neg (fun h' => ((hg _).1 h').elim h1 h)]
  · rw [dif_neg hc, dif_neg hc, ite_self]

end Cert.Pick
-- ==== Proof.TopSort.lean ====
/-
  The reference's top-k read at a place: the scores sorted by falling value, the earlier position first among equals,
  with the positions as words; and the row and the column a position is split into.
-/
module

public import proofs.«01_k».proof.Proof.TopOrder
public import proofs.«01_k».proof.Proof.Gen.TopKReferenceIdeal
public import Idealize.ShloMosaic.Lib.Pointwise
public import Idealize.ShloMosaic.Lib.Routing.Words

@[expose] public section

noncomputable section

namespace Cert.Pick

open Idealize.ShloMosaic Cert.TopKReferenceIdeal Cert.TopKReferenceIdeal.Gen

/-- The flat scores as a function of the position. -/
def line (y : FVec Ideal S26600 .f32) : Fin 26600 → EReal := fun q => y (ix1 q)

theorem along_eq (j : S26600.Idx) (q : Fin 26600) : Shape.Idx.along (s := S26600) j (0 : Fin 1) q = ix1 q := by
  funext a
  rw [show a = (0 : Fin 1) from Subsingleton.elim (α := Fin 1) _ _]
  exact Function.update_self ..

theorem before_eq (y : FVec Ideal S26600 .f32) (j : S26600.Idx) :
    (fun k k' : Fin 26600 => FloatOps.cmpfTotal (F := Ideal) (φ := .f32) .gt (y (Shape.Idx.along (s := S26600) j (0 : Fin 1) k)) (y (Shape.Idx.along (s := S26600) j (0 : Fin 1) k')) == 1#1)
      = larger (line y) := by
  funext k k'
  rw [along_eq, along_eq]
  show (BitVec.ofBool (decide (y (ix1 k') < y (ix1 k))) == 1#1) = decide (y (ix1 k') < y (ix1 k))
  cases decide (y (ix1 k') < y (ix1 k)) <;> rfl

/-- The place of a hundred where its position stands in the whole order. -/
theorem place_eq (y : FVec Ideal S26600 .f32) (a : S26600.Idx) (j : Fin 26600) (ha : a (0 : Fin 1) = j) :
    sortedFrom (fun k k' : Fin 26600 => FloatOps.cmpfTotal (F := Ideal) (φ := .f32) .gt (y (Shape.Idx.along (s := S26600) a (0 : Fin 1) k)) (y (Shape.Idx.along (s := S26600) a (0 : Fin 1) k')) == 1#1) (a (0 : Fin 1))
      = top (line y) j := by
  rw [before_eq, ha]
  rfl

theorem topK_vals (y : FVec Ideal S26600 .f32) (h : S26600.Slices (fun _ => 0) S100) (j : Fin 100) :
    (Host.topK S100 0 (FloatOps.cmpfTotal .gt) y h).1 (ix1 j) = line y (top (line y) ⟨j.val, by omega⟩) := by
  unfold Host.topK Host.sort2
  simp only []
  rw [dif_pos (show 0 < S26600.rank from by decide)]
  unfold extractStridedSlice
  simp only []
  refine (congrArg y ((congrArg (fun q => Shape.Idx.along (s := S26600) _ (0 : Fin 1) q)
    (place_eq y _ ⟨j.val, by omega⟩ (Fin.ext (Nat.zero_add _)))).trans (along_eq _ _)))

theorem topK_idx (y : FVec Ideal S26600 .f32) (h : S26600.Slices (fun _ => 0) S100) (j : Fin 100) :
    (Host.topK S100 0 (FloatOps.cmpfTotal .gt) y h).2 (ix1 j)
      = BitVec.ofNat 32 (top (line y) ⟨j.val, by omega⟩).val := by
  unfold Host.topK Host.sort2
  simp only []
  rw [dif_pos (show 0 < S26600.rank from by decide)]
  unfold extractStridedSlice
  simp only []
  rw [dif_pos (show 0 < S26600.rank from by decide)]
  refine (congrArg (iotaInDim S26600 32 (0 : Fin 1)) ((congrArg (fun q => Shape.Idx.along (s := S26600) _ (0 : Fin 1) q)
    (place_eq y _ ⟨j.val, by omega⟩ (Fin.ext (Nat.zero_add _)))).trans (along_eq _ _))).trans rfl

/-- The remainder by 133 as the reference computes it. -/
theorem rem_word (w : IVec S100 32) (j : Fin 100) (n : Nat) (hn : n < 26600) (hw : w (ix1 j) = BitVec.ofNat 32 n) (d : IVec S_ 32)
    (hd : d = constantI S_ 32 133#32) :
    select (andi (cmpi .ne (cmpi .slt (Host.remsi w (broadcastInDim S100 ![] bcast_S_S100 d)) (broadcastInDim S100 ![] bcast_S_S100 (constantI S_ 32 0#32))) (broadcastInDim S100 ![] bcast_S_S100 (cmpi .slt d (constantI S_ 32 0#32)))) (cmpi .ne (Host.remsi w (broadcastInDim S100 ![] bcast_S_S100 d)) (broadcastInDim S100 ![] bcast_S_S100 (constantI S_ 32 0#32))))
      (addi (Host.remsi w (broadcastInDim S100 ![] bcast_S_S100 d)) (broadcastInDim S100 ![] bcast_S_S100 d))
      (Host.remsi w (broadcastInDim S100 ![] bcast_S_S100 d)) (ix1 j)
      = BitVec.ofNat 32 (n % 133) := by
  subst hd
  have e := Routing.remsi_word .host (a := n) (b := 133) (by omega) (by omega) (by omega)
  have hlt : (BitVec.ofNat 32 (n % 133)).slt 0#32 = false := by
    rw [BitVec.slt_eq_decide, BitVec.toInt_eq_toNat_of_lt (by rw [BitVec.toNat_ofNat]; omega)]
    simp
    omega
  pointwise [hw]
  rw [e]
  simp [IntOp.cmpi, hlt, IntOp.andi, Scalar.select]

theorem div_word (w : IVec S100 32) (j : Fin 100) (n : Nat) (hn : n < 26600) (hw : w (ix1 j) = BitVec.ofNat 32 n) :
    select (andi (cmpi .ne (signi w) (broadcastInDim S100 ![] bcast_S_S100 (signi (id (constantI S_ 32 133#32))))) (cmpi .ne (Host.remsi w (broadcastInDim S100 ![] bcast_S_S100 (id (constantI S_ 32 133#32)))) (broadcastInDim S100 ![] bcast_S_S100 (constantI S_ 32 0#32))))
      (subi (Host.divsi w (broadcastInDim S100 ![] bcast_S_S100 (id (constantI S_ 32 133#32)))) (broadcastInDim S100 ![] bcast_S_S100 (constantI S_ 32 1#32)))
      (Host.divsi w (broadcastInDim S100 ![] bcast_S_S100 (id (constantI S_ 32 133#32)))) (ix1 j)
      = BitVec.ofNat 32 (n / 133) := by
  have e := Routing.remsi_word .host (a := n) (b := 133) (by omega) (by omega) (by omega)
  have e' := Routing.divsi_word .host (a := n) (b := 133) (by omega) (by omega) (by omega)
  pointwise [hw, id_eq]
  rw [e, e']
  have hm : (BitVec.ofNat 32 n).msb = false := by
    rw [BitVec.msb_eq_false_iff_two_mul_lt, BitVec.toNat_ofNat]; omega
  rw [hm]
  by_cases h0 : n = 0
  · subst h0; decide
  · have hne : BitVec.ofNat 32 n ≠ 0 := by
      intro h
      have := congrArg BitVec.toNat h
      rw [BitVec.toNat_ofNat] at this
      simp at this
      omega
    rw [if_neg hne]
    simp [IntOp.cmpi, IntOp.andi, Scalar.select, show (133#32).msb = false from by decide]

end Cert.Pick
-- ==== Proof.TopLoop.lean ====
/-
  The picking loop of the top-k kernel, once per trip: what a trip needs of the state before it and what it leaves, stated
  over the contents of the four buffers it stores into.
-/
module

public import proofs.«01_k».proof.Proof.Gen.TopKIdeal.Frame
public import proofs.«01_k».proof.Proof.Gen.TopKIdeal.Skeleton
public import proofs.«01_k».proof.Proof.Gen.TopKIdeal.Loops
public import Idealize.ShloMosaic.Lib.Tactic
public import Idealize.ShloMosaic.Lib.WholeRead
public import Idealize.ShloMosaic.Lib.WritesUnit
public import Idealize.ShloMosaic.Lib.Pointwise

@[expose] public section

noncomputable section

namespace Cert.Pick

open Cert.TopKIdeal Cert.TopKIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the run. -/
local notation "𝕄" => MT nD τ sig Unit (Elt F) ℕ (UR sig nD τ) ℕ

abbrev 𝒱₀ : Variants := Variants.none

/-- What the loop carries: the largest score left in each row, and its column. -/
abbrev Carry (F : FTy → Type) := FVec F S2x128 .f32 × IVec S2x128 32

/-- The numbers of the columns, as the kernel holds them. -/
abbrev cols : IVec S1x134 32 := iota .tc S1x134 32 [1] iota_S1x134_d1_w32

/-- The row a trip picks. -/
def pickRow (acc : Carry F) : BitVec 32 := extractAt ![0, 0] (k0_pay11 k0_pay6 acc.1) inpos_S1x1_p0_0

/-- The column a trip picks. -/
def pickCol (acc : Carry F) : BitVec 32 := extractAt ![0, 0] (k0_pay13 k0_pay6 acc.1 acc.2) inpos_S1x1_p0_0

/-- Row `n` of the scores. -/
def rowOf (x : Vec F S200x134 .f32) (n : Nat) (h : n < 200) : Vec F S1x134 .f32 := fun y => x (ix2 ⟨n, h⟩ (y 1))

/-- The picked row with the picked entry struck out. -/
abbrev struck (acc : Carry F) (v : Vec F S1x134 .f32) : FVec F S1x134 .f32 := k0_pay15 k0_pay6 cols acc.1 acc.2 v

/-- What the loop carries on from a trip whose picked row is `v`. -/
abbrev carryOn (acc : Carry F) (v : Vec F S1x134 .f32) : Carry F :=
  (k0_pay8 acc.1 (k0_pay12 k0_pay6 acc.1) (struck acc v), k0_pay9 acc.2 (k0_pay12 k0_pay6 acc.1) (struck acc v))

/-- A property of the loop's state that every trip keeps: the state is the trip number, the values, columns and rows picked
    so far, the scores left, and what the loop carries. -/
structure Kept (Good : Nat → Vec F S100x1x128 .f32 → Vec F S100 .i32 → Vec F S100 .i32 → Vec F S200x134 .f32 → Carry F → Prop) : Prop where
  inside : ∀ k x1 x2 x3 x4 acc, k < 100 → Good k x1 x2 x3 x4 acc → (pickRow acc).toNat < 200
  next : ∀ (k : Nat) (hk : k < 100) x1 x2 x3 x4 acc (_ : Good k x1 x2 x3 x4 acc) (h : (pickRow acc).toNat < 200) x1' x2' x3' x4',
    (∀ (j : Fin 100) l, x1' (ix3 j 0 l) = if j.val = k then k0_pay14 acc.1 (ix3 0 0 l) else x1 (ix3 j 0 l)) →
    (∀ j : Fin 100, x2' (ix1 j) = if j.val = k then pickCol acc else x2 (ix1 j)) →
    (∀ j : Fin 100, x3' (ix1 j) = if j.val = k then pickRow acc else x3 (ix1 j)) →
    (∀ (r : Fin 200) c, x4' (ix2 r c) = if r.val = (pickRow acc).toNat then struck acc (rowOf x4 _ h) (ix2 0 c) else x4 (ix2 r c)) →
    Good (k + 1) x1' x2' x3' x4' (carryOn acc (rowOf x4 _ h))

/-- The row picked lies inside the scores. -/
theorem chk_of (w : BitVec 32) (h : w.toNat < 200) : k0_chk1 w := by
  intro a
  fin_cases a
  · show w.toNat + 1 ≤ 200; omega
  · show 0 + 134 ≤ 134; omega

/-- The row loaded is the picked row of the scores. -/
theorem row_read (arg4 : Memref sig .tc .vmem S200x134 .f32) (f4 : arg4.view.ty.Contents (Elt F)) (w : BitVec 32) (h : w.toNat < 200)
    (hc : ∀ a, k0_off3 w a + S1x134.size a ≤ S200x134.size a) :
    View.readAt (Elt F) arg4.view (Rect.unit (s := S200x134) (k0_off3 w) S1x134.size hc).toLoadRect f4
      = rowOf (arg4.view.read (Elt F) f4) w.toNat h := by
  funext y
  refine congrArg (arg4.view.read (Elt F) f4) (funext fun a => ?_)
  fin_cases a
  · have h0 : (y 0).val = 0 := by have : (y 0).val < 1 := (y 0).isLt; omega
    refine Fin.ext ?_
    show w.toNat + 1 * (y 0).val = w.toNat
    omega
  · refine Fin.ext ?_
    show 0 + 1 * (y 1).val = (y 1).val
    omega

/-- The row stored back is the picked row with the picked entry struck out. -/
theorem pay16_eq (a : IVec S2x128 32) (b : IVec S1x134 32) (rm : FVec F S2x128 .f32) (ra : IVec S2x128 32) (v : Vec F S1x134 .f32) :
    k0_pay16 a b rm ra v = k0_pay15 a b rm ra v := shapeCast_self _ _

/-- The values' buffer after a trip's store. -/
theorem vals_stored (arg1 : Memref sig .tc .vmem S100x1x128 .f32) (f1 : arg1.view.ty.Contents (Elt F)) (k : Fin k0_t1_loop.trips)
    (hc : ∀ a, k0_off1 k a + S1x1x128.size a ≤ S100x1x128.size a) (p : FVec F S1x1x128 .f32) (j : Fin 100) (l : Fin 128) :
    arg1.view.read (Elt F) (arg1.view.writes (Elt F) f1 [⟨Rect.unit (s := S100x1x128) (k0_off1 k) S1x1x128.size hc, p⟩]) (ix3 j 0 l)
      = if j.val = k.val then p (ix3 0 0 l) else arg1.view.read (Elt F) f1 (ix3 j 0 l) := by
  by_cases h : j.val = k.val
  · rw [if_pos h]
    refine View.read_writes_cons_unit_of_mem arg1.view f1 hc p [] (ix3 j 0 l) (ix3 0 0 l) (k0_off1_eq k) (fun a => ?_)
    fin_cases a
    · show j.val = k.val + 0; omega
    · rfl
    · show l.val = 0 + l.val; omega
  · rw [if_neg h]
    refine View.read_writes_cons_unit_of_not_mem arg1.view f1 hc p [] (ix3 j 0 l) (k0_off1_eq k) 0 ?_
    show j.val < k.val ∨ k.val + 1 ≤ j.val; omega

/-- A buffer of numbers after a trip's store. -/
theorem cell_stored (arg2 : Memref sig .tc .smem S100 .i32) (f2 : arg2.view.ty.Contents (Elt F)) (k : Fin k0_t1_loop.trips)
    (hc : ∀ a, k0_off2 k a + S1.size a ≤ S100.size a) (p : BitVec 32) (j : Fin 100) :
    arg2.view.read (Elt F) (arg2.view.writes (Elt F) f2 [⟨Rect.unit (s := S100) (k0_off2 k) S1.size hc, fun _ => p⟩]) (ix1 j)
      = if j.val = k.val then p else arg2.view.read (Elt F) f2 (ix1 j) := by
  by_cases h : j.val = k.val
  · rw [if_pos h]
    refine View.read_writes_cons_unit_of_mem arg2.view f2 hc (fun _ => p) [] (ix1 j) (ix1 0) (k0_off2_eq k) (fun a => ?_)
    fin_cases a
    show j.val = k.val + 0; omega
  · rw [if_neg h]
    refine View.read_writes_cons_unit_of_not_mem arg2.view f2 hc (fun _ => p) [] (ix1 j) (k0_off2_eq k) 0 ?_
    show j.val < k.val ∨ k.val + 1 ≤ j.val; omega

/-- The scores after a trip's store. -/
theorem row_stored (arg4 : Memref sig .tc .vmem S200x134 .f32) (f4 : arg4.view.ty.Contents (Elt F)) (w : BitVec 32)
    (hc : ∀ a, k0_off3 w a + S1x134.size a ≤ S200x134.size a) (p : FVec F S1x134 .f32) (r : Fin 200) (l : Fin 134) :
    arg4.view.read (Elt F) (arg4.view.writes (Elt F) f4 [⟨Rect.unit (s := S200x134) (k0_off3 w) S1x134.size hc, p⟩]) (ix2 r l)
      = if r.val = w.toNat then p (ix2 0 l) else arg4.view.read (Elt F) f4 (ix2 r l) := by
  by_cases h : r.val = w.toNat
  · rw [if_pos h]
    refine View.read_writes_cons_unit_of_mem arg4.view f4 hc p [] (ix2 r l) (ix2 0 l) (off' := ![w.toNat, 0]) rfl (fun a => ?_)
    fin_cases a
    · show r.val = w.toNat + 0; omega
    · show l.val = 0 + l.val; omega
  · rw [if_neg h]
    refine View.read_writes_cons_unit_of_not_mem arg4.view f4 hc p [] (ix2 r l) (off' := ![w.toNat, 0]) rfl 0 ?_
    show r.val < w.toNat ∨ w.toNat + 1 ≤ r.val; omega

/-- The scores after the store of all of them. -/
theorem all_stored (arg4 : Memref sig .tc .vmem S200x134 .f32) (f4 : arg4.view.ty.Contents (Elt F))
    (hc : ∀ a, (![0, 0] : Fin 2 → Nat) a + S200x134.size a ≤ S200x134.size a) (p : FVec F S200x134 .f32) :
    arg4.view.read (Elt F) (arg4.view.writes (Elt F) f4 [⟨Rect.unit (s := S200x134) ![0, 0] S200x134.size hc, p⟩]) = p := by
  funext y
  refine View.read_writes_cons_unit_of_mem arg4.view f4 hc p [] y y (off' := ![0, 0]) rfl (fun a => ?_)
  fin_cases a
  · show (y 0).val = 0 + (y 0).val; omega
  · show (y 1).val = 0 + (y 1).val; omega

/-- The load of all the scores. -/
theorem all_read (arg0 : Memref sig .tc .vmem S200x134 .f32) (harg0 : arg0.IsWhole) (x0 : Vec F S200x134 .f32)
    (hc : ∀ a, (![0, 0] : Fin 2 → Nat) a + S200x134.size a ≤ S200x134.size a) :
    View.readAt (Elt F) arg0.view (Rect.unit (s := S200x134) ![0, 0] S200x134.size hc).toLoadRect (harg0.unread x0) = x0 := by
  funext y
  refine (harg0.readAt_unread x0 _ y).trans (congrArg x0 (funext fun a => ?_))
  fin_cases a
  · exact Fin.ext (by show 0 + 1 * (y 0).val = (y 0).val; omega)
  · exact Fin.ext (by show 0 + 1 * (y 1).val = (y 1).val; omega)

section loop
variable (c : Dev nD) (arg0 : Memref sig .tc .vmem S200x134 .f32) (harg0 : arg0.IsWhole)
  (arg1 : Memref sig .tc .vmem S100x1x128 .f32) (harg1 : arg1.IsWhole) (arg2 : Memref sig .tc .smem S100 .i32) (harg2 : arg2.IsWhole)
  (arg3 : Memref sig .tc .smem S100 .i32) (harg3 : arg3.IsWhole) (arg4 : Memref sig .tc .vmem S200x134 .f32) (harg4 : arg4.IsWhole)
  (Good : Nat → Vec F S100x1x128 .f32 → Vec F S100 .i32 → Vec F S100 .i32 → Vec F S200x134 .f32 → Carry F → Prop)

/-- The four buffers at contents with the kept property. -/
def state (k : Nat) (acc : Carry F) : sProp 𝕄 :=
  iprop(∃ f1, ∃ f2, ∃ f3, ∃ f4, (arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ ⌜Good k (arg1.view.read (Elt F) f1) (arg2.view.read (Elt F) f2) (arg3.view.read (Elt F) f3) (arg4.view.read (Elt F) f4) acc⌝)

/-- One trip keeps the property. -/
theorem trip (kept : Kept Good) (k : Fin k0_t1_loop.trips) (acc : Carry F) :
    state c arg1 arg2 arg3 arg4 Good k acc
      ⊢ wp frame (wpE (defs₀ (F := F)) 𝒱₀ (c : Thread nD τ) none) Set.univ
          (k0_t1_body arg0 harg0 arg1 harg1 arg2 harg2 arg3 harg3 arg4 harg4 cols k acc)
          (state c arg1 arg2 arg3 arg4 Good (k.val + 1)) := by
  obtain ⟨rm, ra⟩ := acc
  unfold state
  iintro ⟨%f1, %f2, %f3, %f4, H1, H2, H3, H4, %hG⟩
  have hk : k.val < 100 := k.isLt
  have hr := kept.inside _ _ _ _ _ _ hk hG
  have hc : k0_chk1 (extractAt ![0, 0] (k0_pay11 k0_pay6 rm) inpos_S1x1_p0_0) := chk_of _ hr
  unfold k0_t1_body
  sl_exec
  sl_step
  iexists _; iexists _; iexists _; iexists _
  isplitl [H1]; · iexact H1
  isplitl [H2]; · iexact H2
  isplitl [H3]; · iexact H3
  isplitl [H4]; · iexact H4
  ipureintro
  have er := row_read arg4 f4 _ hr (k0_off3_inb _ hc)
  have e2 : trip.sl.r_2 c arg4 rm ra f4 hc = struck (rm, ra) (rowOf (arg4.view.read (Elt F) f4) _ hr) :=
    congrArg (struck (rm, ra)) er
  rw [e2]
  refine kept.next k.val hk _ _ _ _ _ hG hr _ _ _ _ ?_ ?_ ?_ ?_
  · exact fun j l => vals_stored arg1 f1 k _ _ j l
  · exact fun j => cell_stored arg2 f2 k _ _ j
  · exact fun j => cell_stored arg3 f3 k _ _ j
  · intro r l
    refine (row_stored arg4 f4 _ _ _ r l).trans (if_congr Iff.rfl ?_ rfl)
    exact (congrFun (pay16_eq _ _ _ _ _) _).trans (congrFun e2 _)

set_option maxRecDepth 65536 in
/-- The kernel on whole buffers: if the scores it stores first make the property true before the first trip, then it ends
    with the property true after the hundredth. -/
theorem kernel_run (kept : Kept Good) (x0 : Vec F S200x134 .f32)
    (start : ∀ x1 x2 x3, Good 0 x1 x2 x3 (k0_pay2 x0) (k0_pay4 x0, k0_pay5 x0)) (E : Set ℕ) (K : PUnit → sProp 𝕄) (hE : E = Set.univ) :
    iprop(owns (c : Thread nD τ) arg0 fullShare x0 ∗ (∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg0 fullShare x0 ∗ ∃ x1, ∃ x2, ∃ x3, ∃ x4, ∃ acc, owns (c : Thread nD τ) arg1 fullShare x1
            ∗ owns (c : Thread nD τ) arg2 fullShare x2 ∗ owns (c : Thread nD τ) arg3 fullShare x3 ∗ owns (c : Thread nD τ) arg4 fullShare x4
            ∗ ⌜Good 100 x1 x2 x3 x4 acc⌝) -∗ K ⟨⟩))
      ⊢ wp frame (wpE (defs₀ (F := F)) 𝒱₀ c none) E (cc0__topk_kernel arg0 harg0 arg1 harg1 arg2 harg2 arg3 harg3 arg4 harg4) K := by
  subst hE
  unfold owns
  iintro ⟨⟨%f0, %hf0, H0⟩, ⟨%d1, %f1, -, H1⟩, ⟨%d2, %f2, -, H2⟩, ⟨%d3, %f3, -, H3⟩, ⟨%d4, %f4, -, H4⟩, Hk⟩
  obtain rfl := harg0.eq_unread hf0
  sl_unfold [cc0__topk_kernel]
  sl_exec
  iapply (Scf.wp_for_bind _ _ _ _ _ _ _ _ _ (state c arg1 arg2 arg3 arg4 Good)
    (trip c arg0 harg0 arg1 harg1 arg2 harg2 arg3 harg3 arg4 harg4 Good kept)) $$ [H1 H2 H3 H4]
  · unfold state
    iexists _; iexists _; iexists _; iexists _
    isplitl [H1]; · iexact H1
    isplitl [H2]; · iexact H2
    isplitl [H3]; · iexact H3
    isplitl [H4]; · iexact H4
    ipureintro
    have e0 := all_read arg0 harg0 x0 inb_S200x134_S200x134_0_0
    have e4 : arg4.view.read (Elt F) (arg4.view.writes (Elt F) arg4.view.junk (kernel_run.sl.H4_1 c arg0 harg0 x0)) = k0_pay2 x0 :=
      (all_stored arg4 _ _ _).trans (congrArg k0_pay2 e0)
    rw [e0, e4]
    exact start _ _ _
  · iintro %acc HS
    unfold state
    icases HS with ⟨%g1, %g2, %g3, %g4, H1, H2, H3, H4, %hG⟩
    obtain ⟨rm, ra⟩ := acc
    dsimp only
    sl_step
    iapply Hk
    isplitl [H0]
    · iexists _; isplitr; · ipureintro; exact hf0
      iexact H0
    iexists (arg1.view.read (Elt F) g1); iexists (arg2.view.read (Elt F) g2); iexists (arg3.view.read (Elt F) g3)
    iexists (arg4.view.read (Elt F) g4); iexists (rm, ra)
    isplitl [H1]
    · iexists g1; isplitr; · ipureintro; rfl
      iexact H1
    isplitl [H2]
    · iexists g2; isplitr; · ipureintro; rfl
      iexact H2
    isplitl [H3]
    · iexists g3; isplitr; · ipureintro; rfl
      iexact H3
    isplitl [H4]
    · iexists g4; isplitr; · ipureintro; rfl
      iexact H4
    ipureintro
    exact hG

end loop

end Cert.Pick

end
-- ==== Proof.TopFold.lean ====
/-
  The largest entry and the first place that holds it, as the kernel's reductions compute them: a maximum along an axis,
  and a minimum of the numbers of the places, at a large number where a place does not count.
-/
module

public import proofs.«01_k».proof.Proof.Gen.TopKIdeal.Skeleton
public import Idealize.ShloMosaic.Lib.Pointwise

@[expose] public section

noncomputable section

namespace Cert.Pick

open Idealize.ShloMosaic

/-- The folded maximum is attained and bounds every entry. -/
theorem fold_max_spec {n : Nat} (hn : 0 < n) (f : Fin n → EReal) :
    (∃ c, f c = (Finset.univ : Finset (Fin n)).fold max ⊥ f) ∧ ∀ c, f c ≤ (Finset.univ : Finset (Fin n)).fold max ⊥ f := by
  have hs : (Finset.univ : Finset (Fin n)).fold max ⊥ f = Finset.univ.sup f := rfl
  rw [hs]
  refine ⟨?_, fun c => Finset.le_sup (Finset.mem_univ c)⟩
  obtain ⟨c, -, e⟩ := Finset.exists_mem_eq_sup Finset.univ ⟨⟨0, hn⟩, Finset.mem_univ _⟩ f
  exact ⟨c, e.symm⟩

theorem minsi_eq (a b : BitVec 32) (ha : a.toNat < 2 ^ 31) (hb : b.toNat < 2 ^ 31) :
    IntOp.minsi a b = if a.toNat < b.toNat then a else b := by
  unfold IntOp.minsi
  have ea : a.toInt = a.toNat := BitVec.toInt_eq_toNat_of_lt (by omega)
  have eb : b.toInt = b.toNat := BitVec.toInt_eq_toNat_of_lt (by omega)
  simp only [BitVec.slt, ea, eb, decide_eq_true_eq, Nat.cast_lt]

/-- The folded minimum of words below `2^31` is attained and bounds every word from below. -/
theorem fold_min_spec {n : Nat} (hn : 0 < n) (f : Fin n → BitVec 32) (hf : ∀ c, (f c).toNat < 2 ^ 31) :
    (∃ c, f c = (Finset.univ : Finset (Fin n)).fold IntOp.minsi 2147483647#32 f)
      ∧ ∀ c, ((Finset.univ : Finset (Fin n)).fold IntOp.minsi 2147483647#32 f).toNat ≤ (f c).toNat := by
  have key : ∀ t : Finset (Fin n),
      (t.fold IntOp.minsi 2147483647#32 f).toNat < 2 ^ 31
        ∧ (t.fold IntOp.minsi 2147483647#32 f = 2147483647#32 ∨ ∃ c ∈ t, f c = t.fold IntOp.minsi 2147483647#32 f)
        ∧ ∀ c ∈ t, (t.fold IntOp.minsi 2147483647#32 f).toNat ≤ (f c).toNat := by
    intro t
    classical
    induction t using Finset.induction_on with
    | empty => exact ⟨by simp, .inl rfl, by simp⟩
    | insert a t ha ih =>
      obtain ⟨h1, h2, h3⟩ := ih
      rw [Finset.fold_insert ha, minsi_eq _ _ (hf a) h1]
      split
      · next h =>
        refine ⟨hf a, .inr ⟨a, by simp, rfl⟩, fun c hc => ?_⟩
        rcases Finset.mem_insert.1 hc with rfl | hc
        · exact le_rfl
        · exact h.le.trans (h3 c hc)
      · next h =>
        refine ⟨h1, h2.imp id (fun ⟨c, hc, e⟩ => ⟨c, by simp [hc], e⟩), fun c hc => ?_⟩
        rcases Finset.mem_insert.1 hc with rfl | hc
        · omega
        · exact h3 c hc
  obtain ⟨h1, h2, h3⟩ := key Finset.univ
  refine ⟨?_, fun c => h3 c (Finset.mem_univ c)⟩
  rcases h2 with h2 | ⟨c, -, e⟩
  · refine ⟨⟨0, hn⟩, BitVec.eq_of_toNat_eq ?_⟩
    have := h3 ⟨0, hn⟩ (Finset.mem_univ _)
    have h4 := hf ⟨0, hn⟩
    rw [h2] at this ⊢
    simp at this ⊢
    omega
  · exact ⟨c, e⟩

theorem neg_inf : Ideal.ofBits .f32 0xFF800000#32 = ⊥ := by
  simp [Ideal.ofBits, Ideal.ieee]

section Rows

variable {a b : Nat} (hb : 0 < b)
include hb

/-- The maximum along the rows of a table. -/
theorem row_max (x : FVec Ideal ⟨2, ![a, b]⟩ .f32) (h : Shape.Reduces ⟨2, ![a, b]⟩ [1] ⟨1, ![a]⟩) (hφ) (hacc) (r : Fin a) :
    (∃ c, x (ix2 r c) = multiReduction .maximumf [1] ⟨1, ![a]⟩ x 0xFF800000#32 h hφ hacc (ix1 r))
      ∧ ∀ c, x (ix2 r c) ≤ multiReduction .maximumf [1] ⟨1, ![a]⟩ x 0xFF800000#32 h hφ hacc (ix1 r) := by
  have e : multiReduction .maximumf [1] ⟨1, ![a]⟩ x 0xFF800000#32 h hφ hacc (ix1 r)
      = (Finset.univ : Finset (Fin b)).fold max ⊥ (fun c => x (ix2 r c)) := by
    rw [multiReduction_maximumf_eq_fold, h.fold_fiber_r2_a1]
    show (Finset.univ : Finset (Fin b)).fold max (Ideal.ofBits .f32 0xFF800000#32) _ = _
    rw [neg_inf]
    rfl
  rw [e]
  exact fold_max_spec hb _

/-- The minimum along the rows of a table of words. -/
theorem row_min (x : IVec ⟨2, ![a, b]⟩ 32) (hx : ∀ r c, (x (ix2 r c)).toNat < 2 ^ 31)
    (h : Shape.Reduces ⟨2, ![a, b]⟩ [1] ⟨1, ![a]⟩) (hacc) (r : Fin a) :
    (∃ c, x (ix2 r c) = multiReductionI .minsi [1] ⟨1, ![a]⟩ x 2147483647#32 h hacc (ix1 r))
      ∧ ∀ c, (multiReductionI .minsi [1] ⟨1, ![a]⟩ x 2147483647#32 h hacc (ix1 r)).toNat ≤ (x (ix2 r c)).toNat := by
  have e : multiReductionI .minsi [1] ⟨1, ![a]⟩ x 2147483647#32 h hacc (ix1 r)
      = (Finset.univ : Finset (Fin b)).fold IntOp.minsi 2147483647#32 (fun c => x (ix2 r c)) := by
    rw [multiReductionI_eq_fold, h.fold_fiber_r2_a1]
    rfl
  rw [e]
  exact fold_min_spec hb _ (fun c => hx r c)

end Rows

section Column

variable {a : Nat} (ha : 0 < a)
include ha

theorem col_max (x : FVec Ideal ⟨2, ![a, 1]⟩ .f32) (h : Shape.Reduces ⟨2, ![a, 1]⟩ [0] ⟨1, ![1]⟩) (hφ) (hacc) :
    (∃ c, x (ix2 c 0) = multiReduction .maximumf [0] ⟨1, ![1]⟩ x 0xFF800000#32 h hφ hacc (ix1 0))
      ∧ ∀ c, x (ix2 c 0) ≤ multiReduction .maximumf [0] ⟨1, ![1]⟩ x 0xFF800000#32 h hφ hacc (ix1 0) := by
  have e : multiReduction .maximumf [0] ⟨1, ![1]⟩ x 0xFF800000#32 h hφ hacc (ix1 0)
      = (Finset.univ : Finset (Fin a)).fold max ⊥ (fun c => x (ix2 c 0)) := by
    rw [multiReduction_maximumf_eq_fold, h.fold_fiber_r2_a0]
    show (Finset.univ : Finset (Fin a)).fold max (Ideal.ofBits .f32 0xFF800000#32) _ = _
    rw [neg_inf]
    rfl
  rw [e]
  exact fold_max_spec ha _

theorem col_min (x : IVec ⟨2, ![a, 1]⟩ 32) (hx : ∀ r, (x (ix2 r 0)).toNat < 2 ^ 31)
    (h : Shape.Reduces ⟨2, ![a, 1]⟩ [0] ⟨1, ![1]⟩) (hacc) :
    (∃ c, x (ix2 c 0) = multiReductionI .minsi [0] ⟨1, ![1]⟩ x 2147483647#32 h hacc (ix1 0))
      ∧ ∀ c, (multiReductionI .minsi [0] ⟨1, ![1]⟩ x 2147483647#32 h hacc (ix1 0)).toNat ≤ (x (ix2 c 0)).toNat := by
  have e : multiReductionI .minsi [0] ⟨1, ![1]⟩ x 2147483647#32 h hacc (ix1 0)
      = (Finset.univ : Finset (Fin a)).fold IntOp.minsi 2147483647#32 (fun c => x (ix2 c 0)) := by
    rw [multiReductionI_eq_fold, h.fold_fiber_r2_a0]
    rfl
  rw [e]
  exact fold_min_spec ha _ hx

end Column

end Cert.Pick
-- ==== Proof.TopPayload.lean ====
/-
  What the picking kernel computes from the arrays it has read, read entry by entry at the ideal floats: the largest
  score of each row and the first column that holds it, and a trip's pick.
-/
module

public import proofs.«01_k».proof.Proof.TopOrder
public import proofs.«01_k».proof.Proof.TopFold

@[expose] public section

noncomputable section

namespace Cert.Pick

open Idealize.ShloMosaic Cert.TopKIdeal Cert.TopKIdeal.Gen

theorem toNat_small (n : Nat) (h : n < 2 ^ 30) : (BitVec.ofNat 32 n).toNat = n := by
  rw [BitVec.toNat_ofNat]; exact Nat.mod_eq_of_lt (by omega)

theorem select_ofBool {α : Type} (b : Bool) (x y : α) : Scalar.select (BitVec.ofBool b) x y = if b = true then x else y := by
  cases b <;> rfl

theorem select_if {α : Type} (p : Prop) [Decidable p] (x y : α) :
    Scalar.select (BitVec.ofBool (decide p)) x y = if p then x else y := by
  by_cases h : p <;> simp [h, Scalar.select]

/-- A row's largest entry and the first column that holds it, from the two reductions of the row. -/
theorem rowTop_of {a : Nat} (x : FVec Ideal ⟨2, ![a, 134]⟩ .f32) (sel : IVec ⟨2, ![a, 134]⟩ 32)
    (h : Shape.Reduces ⟨2, ![a, 134]⟩ [1] ⟨1, ![a]⟩) (hφ) (hacc) (hacc')
    (hsel : ∀ r c, sel (ix2 r c) = if x (ix2 r c) = multiReduction .maximumf [1] ⟨1, ![a]⟩ x 0xFF800000#32 h hφ hacc (ix1 r)
      then BitVec.ofNat 32 c.val else 1073741824#32) (r : Fin a) :
    RowTop (fun c => x (ix2 r c)) (multiReduction .maximumf [1] ⟨1, ![a]⟩ x 0xFF800000#32 h hφ hacc (ix1 r))
      (multiReductionI .minsi [1] ⟨1, ![a]⟩ sel 2147483647#32 h hacc' (ix1 r)) := by
  obtain ⟨⟨c₀, h0⟩, h1⟩ := row_max (by omega) x h hφ hacc r
  have hs : ∀ r c, (sel (ix2 r c)).toNat < 2 ^ 31 := by
    intro r c
    rw [hsel]
    split
    · rw [toNat_small _ (by omega)]; omega
    · decide
  obtain ⟨⟨c, hc⟩, h2⟩ := row_min (by omega) sel hs h hacc' r
  have hsel := hsel r
  generalize multiReductionI .minsi [1] ⟨1, ![a]⟩ sel 2147483647#32 h hacc' (ix1 r) = w at hc h2 ⊢
  generalize multiReduction .maximumf [1] ⟨1, ![a]⟩ x 0xFF800000#32 h hφ hacc (ix1 r) = M at *
  have hle : ∀ c', x (ix2 r c') = M → w.toNat ≤ c'.val := by
    intro c' e
    have := h2 c'
    rwa [hsel, if_pos e, toNat_small _ (by omega)] at this
  have hw : w.toNat < 134 := lt_of_le_of_lt (hle c₀ h0) c₀.isLt
  rw [hsel] at hc
  by_cases hM : x (ix2 r c) = M
  · rw [if_pos hM] at hc
    refine ⟨c, hc.symm, hM, h1, fun c' hc' => lt_of_le_of_ne (h1 c') fun e => ?_⟩
    have h3 := hle c' e
    rw [← hc, toNat_small _ (by omega)] at h3
    exact absurd h3 (by rw [not_le]; exact hc')
  · rw [if_neg hM] at hc
    rw [← hc] at hw
    exact absurd hw (by decide)

/-- The largest entry of a table of two rows. -/
theorem max2 (x : FVec Ideal S2x128 .f32) :
    (∃ i l, x (ix2 i l) = k0_pay10 x (ix2 0 0)) ∧ ∀ i l, x (ix2 i l) ≤ k0_pay10 x (ix2 0 0) := by
  have cast2 : ∀ (y : FVec Ideal S2 .f32) (i : Fin 2), shapeCast S2x1 y shapeCasts_S2_S2x1 (ix2 i 0) = y (ix1 i) := by
    intro y i; pointwise
  have cast1 : ∀ (y : FVec Ideal S1 .f32), shapeCast S1x1 y shapeCasts_S1_S1x1 (ix2 0 0) = y (ix1 0) := by
    intro y; pointwise
  have e : k0_pay10 x (ix2 0 0)
      = multiReduction .maximumf [0] S1
          (shapeCast S2x1 (multiReduction .maximumf [1] S2 x 0xFF800000#32 reduces_S2x128_S2 (.inl rfl) rfl) shapeCasts_S2_S2x1)
          0xFF800000#32 reduces_S2x1_S1 (.inl rfl) rfl (ix1 0) := by
    unfold k0_pay10; exact cast1 _
  have hr := fun i => row_max (by omega) x reduces_S2x128_S2 (.inl rfl) rfl i
  obtain ⟨⟨i, hi⟩, h2⟩ := col_max (by omega)
    (shapeCast S2x1 (multiReduction .maximumf [1] S2 x 0xFF800000#32 reduces_S2x128_S2 (.inl rfl) rfl) shapeCasts_S2_S2x1)
    reduces_S2x1_S1 (.inl rfl) rfl
  rw [e]
  rw [cast2] at hi
  constructor
  · obtain ⟨l, hl⟩ := (hr i).1
    exact ⟨i, l, hl.trans hi⟩
  · intro i' l'
    have h3 := h2 i'
    rw [cast2] at h3
    exact ((hr i').2 l').trans h3

/-- The least entry of a table of two rows of words. -/
abbrev least (x : IVec S2x128 32) : IVec S1x1 32 :=
  shapeCast S1x1 (multiReductionI .minsi [0] S1
    (shapeCast S2x1 (multiReductionI .minsi [1] S2 x 2147483647#32 reduces_S2x128_S2 rfl) shapeCasts_S2_S2x1)
    2147483647#32 reduces_S2x1_S1 rfl) shapeCasts_S1_S1x1

theorem min2 (x : IVec S2x128 32) (hx : ∀ i l, (x (ix2 i l)).toNat < 2 ^ 31) :
    (∃ i l, x (ix2 i l) = least x (ix2 0 0)) ∧ ∀ i l, (least x (ix2 0 0)).toNat ≤ (x (ix2 i l)).toNat := by
  have cast2 : ∀ (y : IVec S2 32) (i : Fin 2), shapeCast S2x1 y shapeCasts_S2_S2x1 (ix2 i 0) = y (ix1 i) := by
    intro y i; pointwise
  have cast1 : ∀ (y : IVec S1 32), shapeCast S1x1 y shapeCasts_S1_S1x1 (ix2 0 0) = y (ix1 0) := by
    intro y; pointwise
  have hr := fun i => row_min (by omega) x hx reduces_S2x128_S2 rfl i
  obtain ⟨⟨i, hi⟩, h2⟩ := col_min (by omega)
    (shapeCast S2x1 (multiReductionI .minsi [1] S2 x 2147483647#32 reduces_S2x128_S2 rfl) shapeCasts_S2_S2x1)
    (fun i => by
      rw [cast2]
      obtain ⟨l, hl⟩ := (hr i).1
      exact hl ▸ hx i l)
    reduces_S2x1_S1 rfl
  unfold least
  rw [cast1]
  rw [cast2] at hi
  constructor
  · obtain ⟨l, hl⟩ := (hr i).1
    exact ⟨i, l, hl.trans hi⟩
  · intro i' l'
    have h3 := h2 i'
    rw [cast2] at h3
    exact h3.trans ((hr i').2 l')

theorem pay6_apply (i : Fin 2) (l : Fin 128) : k0_pay6 (ix2 i l) = BitVec.ofNat 32 (i.val * 128 + l.val) := by
  unfold k0_pay6
  pointwise
  simp only [IntOp.addi, IntOp.muli]
  rw [BitVec.ofNat_add, BitVec.ofNat_mul]

/-- The place picked: the first that holds the largest entry. -/
theorem pay11_spec (A : FVec Ideal S2x128 .f32) :
    ∃ i l, k0_pay11 k0_pay6 A (ix2 0 0) = BitVec.ofNat 32 (i.val * 128 + l.val) ∧ A (ix2 i l) = k0_pay10 A (ix2 0 0)
      ∧ (∀ i' l', A (ix2 i' l') ≤ k0_pay10 A (ix2 0 0))
      ∧ ∀ (i' : Fin 2) (l' : Fin 128), i'.val * 128 + l'.val < i.val * 128 + l.val → A (ix2 i' l') < k0_pay10 A (ix2 0 0) := by
  obtain ⟨⟨i₀, l₀, h0⟩, h1⟩ := max2 A
  have hsel : ∀ i l, select (cmpf .oeq A (broadcastTo S2x128 (k0_pay10 A) broadcasts_S1x1_S2x128)) k0_pay6 (broadcast S2x128 1073741824#32) (ix2 i l)
      = if A (ix2 i l) = k0_pay10 A (ix2 0 0) then BitVec.ofNat 32 (i.val * 128 + l.val) else 1073741824#32 := by
    intro i l
    rw [← pay6_apply]
    generalize k0_pay10 A = z
    generalize k0_pay6 = u
    pointwise
  have e : k0_pay11 k0_pay6 A
      = least (select (cmpf .oeq A (broadcastTo S2x128 (k0_pay10 A) broadcasts_S1x1_S2x128)) k0_pay6 (broadcast S2x128 1073741824#32)) := rfl
  rw [e]
  generalize k0_pay10 A (ix2 0 0) = M at *
  generalize select (cmpf .oeq A (broadcastTo S2x128 (k0_pay10 A) broadcasts_S1x1_S2x128)) k0_pay6 (broadcast S2x128 1073741824#32) = sel at *
  obtain ⟨⟨i, l, hi⟩, h2⟩ := min2 sel (fun i l => by
    rw [hsel]
    split
    · rw [toNat_small _ (by omega)]; omega
    · decide)
  generalize least sel (ix2 0 0) = w at *
  have hle : ∀ (i' : Fin 2) (l' : Fin 128), A (ix2 i' l') = M → w.toNat ≤ i'.val * 128 + l'.val := by
    intro i' l' e'
    have := h2 i' l'
    rwa [hsel, if_pos e', toNat_small _ (by omega)] at this
  have hw : w.toNat < 256 := lt_of_le_of_lt (hle i₀ l₀ h0) (by omega)
  rw [hsel] at hi
  by_cases hM : A (ix2 i l) = M
  · rw [if_pos hM] at hi
    refine ⟨i, l, hi.symm, hM, h1, fun i' l' h' => lt_of_le_of_ne (h1 i' l') fun e' => ?_⟩
    have h3 := hle i' l' e'
    rw [← hi, toNat_small _ (by omega)] at h3
    omega
  · rw [if_neg hM] at hi
    rw [← hi] at hw
    exact absurd hw (by decide)

theorem pay12_apply (A : FVec Ideal S2x128 .f32) (i : Fin 2) (l : Fin 128) :
    k0_pay12 k0_pay6 A (ix2 i l) = BitVec.ofBool (decide (BitVec.ofNat 32 (i.val * 128 + l.val) = k0_pay11 k0_pay6 A (ix2 0 0))) := by
  rw [← pay6_apply]
  unfold k0_pay12
  generalize k0_pay11 k0_pay6 A = z
  generalize k0_pay6 = u
  pointwise
  rfl

theorem place_inj {i i' : Fin 2} {l l' : Fin 128} :
    BitVec.ofNat 32 (i'.val * 128 + l'.val) = BitVec.ofNat 32 (i.val * 128 + l.val) ↔ i'.val * 128 + l'.val = i.val * 128 + l.val := by
  constructor
  · intro h
    have := congrArg BitVec.toNat h
    rwa [toNat_small _ (by omega), toNat_small _ (by omega)] at this
  · intro h; rw [h]

/-- The column kept for the place picked. -/
theorem pay13_spec (A : FVec Ideal S2x128 .f32) (B : IVec S2x128 32) (i : Fin 2) (l : Fin 128)
    (h : k0_pay11 k0_pay6 A (ix2 0 0) = BitVec.ofNat 32 (i.val * 128 + l.val)) (hB : (B (ix2 i l)).toNat < 2 ^ 30) :
    k0_pay13 k0_pay6 A B (ix2 0 0) = B (ix2 i l) := by
  have hsel : ∀ i' l', select (k0_pay12 k0_pay6 A) B (broadcast S2x128 1073741824#32) (ix2 i' l')
      = if i'.val * 128 + l'.val = i.val * 128 + l.val then B (ix2 i' l') else 1073741824#32 := by
    intro i' l'
    have hm := pay12_apply A i' l'
    rw [h] at hm
    generalize k0_pay12 k0_pay6 A = z at *
    pointwise
    rw [hm, select_if]
    simp only [place_inj]
  have e : k0_pay13 k0_pay6 A B = least (select (k0_pay12 k0_pay6 A) B (broadcast S2x128 1073741824#32)) := rfl
  rw [e]
  generalize select (k0_pay12 k0_pay6 A) B (broadcast S2x128 1073741824#32) = sel at *
  have hin : ∀ (i' : Fin 2) (l' : Fin 128), i'.val * 128 + l'.val = i.val * 128 + l.val → B (ix2 i' l') = B (ix2 i l) := by
    intro i' l' e'
    rw [show i' = i from Fin.ext (by omega), show l' = l from Fin.ext (by omega)]
  obtain ⟨⟨i₁, l₁, hi⟩, h2⟩ := min2 sel (fun i' l' => by
    rw [hsel]
    split
    · next e' => rw [hin _ _ e']; omega
    · decide)
  have h3 := h2 i l
  rw [hsel, if_pos rfl] at h3
  generalize least sel (ix2 0 0) = w at *
  rw [hsel] at hi
  by_cases e' : i₁.val * 128 + l₁.val = i.val * 128 + l.val
  · rw [if_pos e', hin _ _ e'] at hi
    exact hi.symm
  · rw [if_neg e'] at hi
    rw [← hi] at h3
    exact absurd (lt_of_le_of_lt h3 hB) (by decide)

theorem pay14_apply (A : FVec Ideal S2x128 .f32) (l : Fin 128) : k0_pay14 A (ix3 0 0 l) = k0_pay10 A (ix2 0 0) := by
  unfold k0_pay14
  generalize k0_pay10 A = z
  pointwise

theorem neg_one : Ideal.ofBits .f32 0xBF800000#32 = -1 := by
  simp [Ideal.ofBits, Ideal.ieee, -EReal.coe_mul]; norm_num

theorem neg_two_lt : Ideal.ofBits .f32 0xC0000000#32 < -1 := by
  simp [Ideal.ofBits, Ideal.ieee, -EReal.coe_mul]
  rw [show (8388608 * (2 ^ 22)⁻¹ : ℝ) = 2 by norm_num]
  exact_mod_cast one_lt_two

/-- The picked row with its picked entry struck out. -/
theorem pay15_apply (A : FVec Ideal S2x128 .f32) (B : IVec S2x128 32) (v : Vec Ideal S1x134 .f32) (c : Fin 134) :
    k0_pay15 k0_pay6 (iota .tc S1x134 32 [1] iota_S1x134_d1_w32) A B v (ix2 0 c)
      = if BitVec.ofNat 32 c.val = k0_pay13 k0_pay6 A B (ix2 0 0) then -1 else v (ix2 0 c) := by
  unfold k0_pay15
  generalize k0_pay13 k0_pay6 A B = z
  pointwise
  rw [neg_one]
  exact select_if _ _ _

theorem pay7_apply (v : FVec Ideal S1x134 .f32) :
    k0_pay7 v (ix2 0 0) = multiReduction .maximumf [1] S1 v 0xFF800000#32 reduces_S1x134_S1 (.inl rfl) rfl (ix1 0) := by
  unfold k0_pay7
  generalize multiReduction .maximumf [1] S1 v 0xFF800000#32 reduces_S1x134_S1 (.inl rfl) rfl = z
  pointwise

theorem pay8_apply (A : FVec Ideal S2x128 .f32) (m : IVec S2x128 1) (v : FVec Ideal S1x134 .f32) (i : Fin 2) (l : Fin 128) :
    k0_pay8 A m v (ix2 i l) = Scalar.select (m (ix2 i l)) (k0_pay7 v (ix2 0 0)) (A (ix2 i l)) := by
  unfold k0_pay8
  generalize k0_pay7 v = z
  pointwise

/-- The masked column numbers of a row. -/
abbrev rowSel (v : FVec Ideal S1x134 .f32) : IVec S1x134 32 :=
  select (cmpf .oeq v (broadcastTo S1x134 (k0_pay7 v) broadcasts_S1x1_S1x134)) (iota .tc S1x134 32 [1] iota_S1x134_d1_w32)
    (broadcast S1x134 1073741824#32)

theorem pay9_apply (B : IVec S2x128 32) (m : IVec S2x128 1) (v : FVec Ideal S1x134 .f32) (i : Fin 2) (l : Fin 128) :
    k0_pay9 B m v (ix2 i l)
      = Scalar.select (m (ix2 i l)) (multiReductionI .minsi [1] S1 (rowSel v) 2147483647#32 reduces_S1x134_S1 rfl (ix1 0)) (B (ix2 i l)) := by
  unfold k0_pay9
  simp only []
  generalize multiReductionI .minsi [1] S1 _ 2147483647#32 reduces_S1x134_S1 rfl = z
  pointwise

/-- The row's new largest entry and first column, as the trip recomputes them. -/
theorem rowTop_next (v : FVec Ideal S1x134 .f32) :
    RowTop (fun c => v (ix2 0 c)) (k0_pay7 v (ix2 0 0))
      (multiReductionI .minsi [1] S1 (rowSel v) 2147483647#32 reduces_S1x134_S1 rfl (ix1 0)) := by
  rw [pay7_apply]
  refine rowTop_of v (rowSel v) reduces_S1x134_S1 (.inl rfl) rfl rfl (fun r c => ?_) 0
  rw [show r = 0 from Subsingleton.elim _ _, ← pay7_apply]
  unfold rowSel
  generalize k0_pay7 v = z
  pointwise

theorem pay4_apply (v0 : Vec Ideal S200x134 .f32) (i : Fin 2) (l : Fin 128) :
    k0_pay4 v0 (ix2 i l) = if h : i.val * 128 + l.val < 200 then k0_pay3 v0 (ix1 ⟨_, h⟩) else Ideal.ofBits .f32 0xC0000000#32 := by
  unfold k0_pay4
  generalize k0_pay3 v0 = z
  pointwise

/-- The masked column numbers of the scores. -/
abbrev allSel (v0 : Vec Ideal S200x134 .f32) : IVec S200x134 32 :=
  select (cmpf .oeq (k0_pay1 v0) (broadcastTo S200x134 (shapeCast S200x1 (k0_pay3 v0) shapeCasts_S200_S200x1) broadcasts_S200x1_S200x134))
    (iota .tc S200x134 32 [1] iota_S200x134_d1_w32) (broadcast S200x134 1073741824#32)

theorem pay5_apply (v0 : Vec Ideal S200x134 .f32) (i : Fin 2) (l : Fin 128) :
    k0_pay5 v0 (ix2 i l) = if h : i.val * 128 + l.val < 200
      then multiReductionI .minsi [1] S200 (allSel v0) 2147483647#32 reduces_S200x134_S200 rfl (ix1 ⟨_, h⟩) else 1073741824#32 := by
  unfold k0_pay5
  simp only []
  generalize multiReductionI .minsi [1] S200 _ 2147483647#32 reduces_S200x134_S200 rfl = z
  pointwise

/-- Each row's largest score and first column, as the loop starts. -/
theorem rowTop_first (v0 : Vec Ideal S200x134 .f32) (r : Fin 200) :
    RowTop (fun c => k0_pay1 v0 (ix2 r c)) (k0_pay3 v0 (ix1 r))
      (multiReductionI .minsi [1] S200 (allSel v0) 2147483647#32 reduces_S200x134_S200 rfl (ix1 r)) := by
  refine rowTop_of (k0_pay1 v0) (allSel v0) reduces_S200x134_S200 (.inl rfl) rfl rfl (fun r c => ?_) r
  show allSel v0 (ix2 r c) = if k0_pay1 v0 (ix2 r c) = k0_pay3 v0 (ix1 r) then _ else _
  unfold allSel
  generalize k0_pay3 v0 = z
  generalize k0_pay1 v0 = u
  pointwise

theorem pay2_apply (v0 : Vec Ideal S200x134 .f32) (r : Fin 200) (c : Fin 134) : k0_pay2 v0 (ix2 r c) = k0_pay1 v0 (ix2 r c) := by
  unfold k0_pay2
  generalize k0_pay1 v0 = z
  pointwise

end Cert.Pick
-- ==== Proof.TopState.lean ====
/-
  The picking loop's state after `k` picks, and that a trip takes it from `k` picks to `k + 1`.
-/
module

public import proofs.«01_k».proof.Proof.TopLoop
public import proofs.«01_k».proof.Proof.TopPayload

@[expose] public section

noncomputable section

namespace Cert.Pick

open Idealize.ShloMosaic Cert.TopKIdeal Cert.TopKIdeal.Gen

/-- Place `j` of the hundred, as a place of the whole order. -/
def up (j : Fin 100) : Fin 26600 := ⟨j.val, by omega⟩

variable (s : Fin 26600 → EReal)

/-- What the buffers and the carried arrays hold after `k` picks of the scores `s`. -/
structure Good (k : Nat) (x1 : Vec Ideal S100x1x128 .f32) (x2 x3 : Vec Ideal S100 .i32) (x4 : Vec Ideal S200x134 .f32)
    (acc : Carry Ideal) : Prop where
  vals : ∀ j : Fin 100, j.val < k → ∀ l, x1 (ix3 j 0 l) = s (top s (up j))
  colsAt : ∀ j : Fin 100, j.val < k → x2 (ix1 j) = BitVec.ofNat 32 (colNo (top s (up j))).val
  rowsAt : ∀ j : Fin 100, j.val < k → x3 (ix1 j) = BitVec.ofNat 32 (rowNo (top s (up j))).val
  table : ∀ r c, x4 (ix2 r c) = left s k r c
  tops : ∀ (i : Fin 2) (l : Fin 128) (h : i.val * 128 + l.val < 200),
    RowTop (left s k ⟨i.val * 128 + l.val, h⟩) (acc.1 (ix2 i l)) (acc.2 (ix2 i l))
  pads : ∀ (i : Fin 2) (l : Fin 128), ¬ i.val * 128 + l.val < 200 → acc.1 (ix2 i l) < -1

theorem pickRow_eq (acc : Carry Ideal) : pickRow acc = k0_pay11 k0_pay6 acc.1 (ix2 0 0) := by
  unfold pickRow
  generalize k0_pay11 k0_pay6 acc.1 = z
  pointwise

theorem pickCol_eq (acc : Carry Ideal) : pickCol acc = k0_pay13 k0_pay6 acc.1 acc.2 (ix2 0 0) := by
  unfold pickCol
  generalize k0_pay13 k0_pay6 acc.1 acc.2 = z
  pointwise

theorem place_of (r : Fin 200) : ∃ (i : Fin 2) (l : Fin 128), i.val * 128 + l.val = r.val :=
  ⟨⟨r.val / 128, by omega⟩, ⟨r.val % 128, by omega⟩, by simp only []; omega⟩

/-- What a trip picks is the next position of the order. -/
theorem picked (hs : ∀ q, 0 ≤ s q) {k : Nat} (hk : k < 100) {x1 x2 x3 x4} {acc : Carry Ideal} (g : Good s k x1 x2 x3 x4 acc) :
    ∃ (i : Fin 2) (l : Fin 128), i.val * 128 + l.val = (rowNo (top s (up ⟨k, hk⟩))).val
      ∧ k0_pay11 k0_pay6 acc.1 (ix2 0 0) = BitVec.ofNat 32 (i.val * 128 + l.val)
      ∧ k0_pay13 k0_pay6 acc.1 acc.2 (ix2 0 0) = BitVec.ofNat 32 (colNo (top s (up ⟨k, hk⟩))).val
      ∧ k0_pay10 acc.1 (ix2 0 0) = s (top s (up ⟨k, hk⟩)) := by
  obtain ⟨i, l, h1, h2, h3, h4⟩ := pay11_spec acc.1
  have hin : i.val * 128 + l.val < 200 := by
    by_contra h
    have hp := g.pads i l h
    obtain ⟨c, -, e, -, -⟩ := g.tops 0 0 (by decide)
    have := h3 0 0
    rw [← h2, ← e] at this
    exact absurd (lt_of_le_of_lt ((left_ge s hs _ _ _).trans this) hp) (lt_irrefl _)
  obtain ⟨c, hw, e, hle, hlt⟩ := g.tops i l hin
  have hM : left s k ⟨i.val * 128 + l.val, hin⟩ c = k0_pay10 acc.1 (ix2 0 0) := e.trans h2
  obtain ⟨hr, hc, hv⟩ := pick_eq s hs (up ⟨k, hk⟩) ⟨i.val * 128 + l.val, hin⟩ c
    (fun r' c' => by
      obtain ⟨i', l', e'⟩ := place_of r'
      obtain ⟨-, -, -, hle', -⟩ := g.tops i' l' (by omega)
      have := hle' c'
      rw [show (⟨i'.val * 128 + l'.val, by omega⟩ : Fin 200) = r' from Fin.ext e'] at this
      exact (this.trans (h3 i' l')).trans_eq hM.symm)
    (fun r' hr' c' => by
      obtain ⟨i', l', e'⟩ := place_of r'
      obtain ⟨-, -, -, hle', -⟩ := g.tops i' l' (by omega)
      have := hle' c'
      rw [show (⟨i'.val * 128 + l'.val, by omega⟩ : Fin 200) = r' from Fin.ext e'] at this
      have h5 : r'.val < i.val * 128 + l.val := hr'
      exact (this.trans_lt (h4 i' l' (by omega))).trans_eq hM.symm)
    (fun c' hc' => (hlt c' hc').trans_eq e.symm)
  refine ⟨i, l, congrArg Fin.val hr, h1, ?_, hM.symm.trans hv⟩
  rw [pay13_spec acc.1 acc.2 i l h1 (by rw [hw, toNat_small _ (by omega)]; omega), hw, hc]

/-- The next state of the row struck. -/
theorem struck_eq (hs : ∀ q, 0 ≤ s q) {k : Nat} (hk : k < 100) {x1 x2 x3 x4} {acc : Carry Ideal} (g : Good s k x1 x2 x3 x4 acc)
    (h : (pickRow acc).toNat < 200) (r : Fin 200) (hr : r.val = (pickRow acc).toNat) (c : Fin 134) :
    struck acc (rowOf x4 _ h) (ix2 0 c) = left s (k + 1) r c := by
  obtain ⟨i, l, e1, e2, e3, -⟩ := picked s hs hk g
  have hr' : r = rowNo (top s (up ⟨k, hk⟩)) := by
    refine Fin.ext ?_
    rw [hr, pickRow_eq, e2, toNat_small _ (by omega), e1]
  have hx : rowOf x4 _ h (ix2 0 c) = left s k r c := by
    rw [← g.table]
    exact congrArg (fun q => x4 (ix2 q c)) (Fin.ext hr.symm)
  refine (pay15_apply _ _ _ _).trans ?_
  rw [e3, hx]
  refine Eq.trans ?_ (left_succ s (up ⟨k, hk⟩) r c).symm
  have hiff : BitVec.ofNat 32 c.val = BitVec.ofNat 32 (colNo (top s (up ⟨k, hk⟩))).val ↔ c.val = (colNo (top s (up ⟨k, hk⟩))).val := by
    constructor
    · intro h'
      have := congrArg BitVec.toNat h'
      rwa [toNat_small _ (by omega), toNat_small _ (by omega)] at this
    · intro h'; rw [h']
  by_cases hc : c.val = (colNo (top s (up ⟨k, hk⟩))).val
  · rw [if_pos (hiff.2 hc), if_pos ⟨hr', hc⟩]
  · rw [if_neg (fun h' => hc (hiff.1 h')), if_neg (fun h' => hc h'.2)]
    rfl

theorem left_other {k : Nat} (hk : k < 100) (r : Fin 200) (hr : r ≠ rowNo (top s (up ⟨k, hk⟩))) :
    left s (k + 1) r = left s k r := by
  funext c
  exact (left_succ s (up ⟨k, hk⟩) r c).trans (if_neg fun h => hr h.1)

theorem kept (hs : ∀ q, 0 ≤ s q) : Kept (Good s) where
  inside k x1 x2 x3 x4 acc hk g := by
    obtain ⟨i, l, e1, e2, -, -⟩ := picked s hs hk g
    rw [pickRow_eq, e2, toNat_small _ (by omega), e1]
    exact Fin.isLt _
  next k hk x1 x2 x3 x4 acc g h x1' x2' x3' x4' h1 h2 h3 h4 := by
    obtain ⟨i, l, e1, e2, e3, e4⟩ := picked s hs hk g
    have hrow : (pickRow acc).toNat = i.val * 128 + l.val := by rw [pickRow_eq, e2, toNat_small _ (by omega)]
    have hin : i.val * 128 + l.val < 200 := hrow ▸ h
    have hup : ∀ j : Fin 100, j.val = k → up j = up ⟨k, hk⟩ := fun j e => Fin.ext e
    have hne : ∀ (i' : Fin 2) (l' : Fin 128) (h' : i'.val * 128 + l'.val < 200), i'.val * 128 + l'.val ≠ i.val * 128 + l.val →
        (⟨i'.val * 128 + l'.val, h'⟩ : Fin 200) ≠ rowNo (top s (up ⟨k, hk⟩)) := by
      intro i' l' h' hn e
      exact hn ((congrArg Fin.val e).trans e1.symm)
    have hm : ∀ (i' : Fin 2) (l' : Fin 128), k0_pay12 k0_pay6 acc.1 (ix2 i' l')
        = BitVec.ofBool (decide (i'.val * 128 + l'.val = i.val * 128 + l.val)) := by
      intro i' l'
      rw [pay12_apply, e2]
      simp only [place_inj]
    have hA : ∀ (i' : Fin 2) (l' : Fin 128), (carryOn acc (rowOf x4 _ h)).1 (ix2 i' l')
        = if i'.val * 128 + l'.val = i.val * 128 + l.val then k0_pay7 (struck acc (rowOf x4 _ h)) (ix2 0 0) else acc.1 (ix2 i' l') := by
      intro i' l'
      refine (pay8_apply _ _ _ _ _).trans ?_
      rw [hm, select_if]
    have hB : ∀ (i' : Fin 2) (l' : Fin 128), (carryOn acc (rowOf x4 _ h)).2 (ix2 i' l')
        = if i'.val * 128 + l'.val = i.val * 128 + l.val
          then multiReductionI .minsi [1] S1 (rowSel (struck acc (rowOf x4 _ h))) 2147483647#32 reduces_S1x134_S1 rfl (ix1 0)
          else acc.2 (ix2 i' l') := by
      intro i' l'
      refine (pay9_apply _ _ _ _ _).trans ?_
      rw [hm, select_if]
    refine ⟨fun j hj l => ?_, fun j hj => ?_, fun j hj => ?_, fun r c => ?_, fun i' l' h' => ?_, fun i' l' h' => ?_⟩
    · rw [h1]
      split
      · next e => rw [pay14_apply, e4, hup j e]
      · exact g.vals j (by omega) l
    · rw [h2]
      split
      · next e => rw [pickCol_eq, e3, hup j e]
      · exact g.colsAt j (by omega)
    · rw [h3]
      split
      · next e => rw [pickRow_eq, e2, hup j e, e1]
      · exact g.rowsAt j (by omega)
    · rw [h4]
      split
      · next e => exact struck_eq s hs hk g h r e c
      · next e =>
        rw [left_other s hk r (fun e' => e (by rw [hrow, e1, e']))]
        exact g.table r c
    · rw [hA, hB]
      by_cases e : i'.val * 128 + l'.val = i.val * 128 + l.val
      · rw [if_pos e, if_pos e]
        have hf : (fun c => struck acc (rowOf x4 _ h) (ix2 0 c)) = left s (k + 1) ⟨i'.val * 128 + l'.val, h'⟩ :=
          funext fun c => struck_eq s hs hk g h _ (by rw [hrow]; exact e) c
        rw [← hf]
        exact rowTop_next _
      · rw [if_neg e, if_neg e, left_other s hk _ (hne i' l' h' e)]
        exact g.tops i' l' h'
    · rw [hA, if_neg (by omega)]
      exact g.pads i' l' h'

/-- The state the loop starts from. -/
theorem good_start (x0 : Vec Ideal S200x134 .f32) (h0 : ∀ r c, k0_pay1 x0 (ix2 r c) = left s 0 r c) (x1 x2 x3) :
    Good s 0 x1 x2 x3 (k0_pay2 x0) (k0_pay4 x0, k0_pay5 x0) where
  vals j hj := absurd hj (Nat.not_lt_zero _)
  colsAt j hj := absurd hj (Nat.not_lt_zero _)
  rowsAt j hj := absurd hj (Nat.not_lt_zero _)
  table r c := (pay2_apply x0 r c).trans (h0 r c)
  tops i l h := by
    show RowTop _ (k0_pay4 x0 (ix2 i l)) (k0_pay5 x0 (ix2 i l))
    rw [pay4_apply, pay5_apply, dif_pos h, dif_pos h]
    rw [show left s 0 ⟨i.val * 128 + l.val, h⟩ = fun c => k0_pay1 x0 (ix2 ⟨i.val * 128 + l.val, h⟩ c) from funext fun c => (h0 _ c).symm]
    exact rowTop_first x0 _
  pads i l h := by
    show k0_pay4 x0 (ix2 i l) < -1
    rw [pay4_apply, dif_neg h]
    exact neg_two_lt

end Cert.Pick
-- ==== Proof.TopSoft.lean ====
/-
  The scores: the row-wise softmax as the kernel's first block of operations computes it and as the reference does, entry
  by entry the same; and that on real logits no score is negative.
-/
module

public import proofs.«01_k».proof.Proof.TopSort
public import proofs.«01_k».proof.Proof.TopState
public import proofs.«01_k».proof.Proof.MaskPre
public import proofs.«01_k».proof.Proof.MaskMath
public import proofs.«01_k».proof.Proof.Gen.Pre_finite

@[expose] public section

noncomputable section

namespace Cert.Pick

open Idealize.ShloMosaic

/-- Entry `c` of the softmax of row `r`. -/
def soft (x : Fin 200 → Fin 134 → EReal) (r : Fin 200) (c : Fin 134) : EReal :=
  Ideal.div (Ideal.exp (x r c - (Finset.univ : Finset (Fin 134)).fold max ⊥ (x r)))
    (∑ c', Ideal.exp (x r c' - (Finset.univ : Finset (Fin 134)).fold max ⊥ (x r)))

/-- The scores in one line, the last column dropped. -/
def scoreOf (x : Fin 200 → Fin 134 → EReal) (q : Fin 26600) : EReal := soft x (rowNo q) ⟨(colNo q).val, by omega⟩

/-- No score is negative when the logits are real. -/
theorem soft_nonneg (x : Fin 200 → Fin 134 → EReal) (hx : ∀ r c, ∃ v : ℝ, x r c = (v : EReal)) (r : Fin 200) (c : Fin 134) :
    0 ≤ soft x r c := by
  obtain ⟨⟨k, hk⟩, -⟩ := fold_max_spec (by omega : 0 < 134) (x r)
  choose v hv using hx
  have e : ∀ c', Ideal.exp (x r c' - (Finset.univ : Finset (Fin 134)).fold max ⊥ (x r))
      = ((Real.exp (v r c' - v r k) : ℝ) : EReal) := by
    intro c'
    rw [← hk, hv r c', hv r k, ← EReal.coe_sub]
    rfl
  have hpos : (0 : ℝ) < ∑ c' : Fin 134, Real.exp (v r c' - v r k) :=
    Finset.sum_pos (fun c' _ => Real.exp_pos _) ⟨k, Finset.mem_univ k⟩
  have es : (∑ c', Ideal.exp (x r c' - (Finset.univ : Finset (Fin 134)).fold max ⊥ (x r)))
      = ((∑ c' : Fin 134, Real.exp (v r c' - v r k) : ℝ) : EReal) := by
    rw [Finset.sum_congr rfl (fun c' _ => e c'), Cert.Resize.coe_sum]
  unfold soft
  rw [es, e]
  unfold Ideal.div
  have hne : ((∑ c' : Fin 134, Real.exp (v r c' - v r k) : ℝ) : EReal) ≠ 0 := by
    exact_mod_cast hpos.ne'
  rw [if_neg hne, ← EReal.coe_inv, ← EReal.coe_mul]
  exact_mod_cast mul_nonneg (Real.exp_pos _).le (inv_nonneg.2 hpos.le)

section kernelSide
open Cert.TopKIdeal Cert.TopKIdeal.Gen

/-- The kernel's table of scores before the first pick. -/
theorem pay1_left (x : Vec Ideal S200x134 .f32) (r : Fin 200) (c : Fin 134) :
    k0_pay1 x (ix2 r c) = left (scoreOf fun r c => x (ix2 r c)) 0 r c := by
  have e : k0_pay1 x (ix2 r c) = if c.val < 133 then soft (fun r c => x (ix2 r c)) r c else -1 := by
    unfold k0_pay1
    pointwise
    rw [neg_inf, neg_one]
    have hc : IntOp.cmpi .slt (BitVec.ofNat 32 c.val) 133#32 = BitVec.ofBool (decide (c.val < 133)) := by
      unfold IntOp.cmpi
      have h1 : (BitVec.ofNat 32 c.val).toInt = c.val := by
        rw [BitVec.toInt_eq_toNat_of_lt (by rw [BitVec.toNat_ofNat]; omega), BitVec.toNat_ofNat,
          Nat.mod_eq_of_lt (by omega)]
      have h2 : (133#32).toInt = 133 := by decide
      simp only [BitVec.slt_eq_decide, h1, h2]
      norm_num
    rw [hc]
    by_cases h : c.val < 133
    · rw [if_pos h]
      simp [h, Scalar.select, soft]
    · rw [if_neg h]
      simp [h, Scalar.select]
  rw [e]
  unfold left
  by_cases h : c.val < 133
  · rw [if_pos h, dif_pos h, if_neg (by rintro ⟨j, hj, -⟩; omega)]
    unfold scoreOf
    rw [rowNo_flat]
    congr 1
    exact Fin.ext (congrArg Fin.val (colNo_flat r ⟨c.val, h⟩)).symm
  · rw [if_neg h, dif_neg h]

end kernelSide

section referenceSide
open Cert.TopKReferenceIdeal Cert.TopKReferenceIdeal.Gen

/-- The reference's table of scores. -/
def softTable (x : FVec Ideal S200x134 .f32) : FVec Ideal S200x134 .f32 :=
  Host.divf (Host.exp (subf x (broadcastInDim S200x134 ![0, 1] bcast_S200x1_S200x134_0_1 (broadcastInDim S200x1 ![0] bcast_S200_S200x1_0 (maximumf (broadcastInDim S200 ![] bcast_S_S200 (constant S_ .f32 0xFF800000#32)) (Host.reduce FloatOps.maximumf x (constant S_ .f32 0xFF800000#32) reducesTo_S200x134_S200_d1 h_S_)))))) (broadcastInDim S200x134 ![0, 1] bcast_S200x1_S200x134_0_1 (broadcastInDim S200x1 ![0] bcast_S200_S200x1_0 (Host.reduceAdd (Host.exp (subf x (broadcastInDim S200x134 ![0, 1] bcast_S200x1_S200x134_0_1 (broadcastInDim S200x1 ![0] bcast_S200_S200x1_0 (maximumf (broadcastInDim S200 ![] bcast_S_S200 (constant S_ .f32 0xFF800000#32)) (Host.reduce FloatOps.maximumf x (constant S_ .f32 0xFF800000#32) reducesTo_S200x134_S200_d1 h_S_)))))) (constant S_ .f32 0x00000000#32) reducesTo_S200x134_S200_d1 h_S_)))

/-- The reference's scores in one line. -/
def flatY (x : FVec Ideal S200x134 .f32) : FVec Ideal S26600 .f32 :=
  shapeCast _ (extractStridedSlice S200x133 ![0, 0] (softTable x) slices_S200x134_S200x133_0_0) shapeCasts_S200x133_S26600

theorem softTable_at (x : FVec Ideal S200x134 .f32) (r : Fin 200) (c : Fin 134) :
    softTable x (ix2 r c) = soft (fun r c => x (ix2 r c)) r c := by
  unfold softTable
  pointwise
  rw [neg_inf]
  simp only [bot_le, max_eq_right]
  rfl

theorem line_flatY (x : FVec Ideal S200x134 .f32) : line (flatY x) = scoreOf fun r c => x (ix2 r c) := by
  refine funext fun q => (show flatY x (ix1 q) = softTable x (ix2 (rowNo q) ⟨(colNo q).val, by omega⟩) from ?_).trans
    (softTable_at x _ _)
  unfold flatY
  generalize softTable x = D
  pointwise
  rfl

end referenceSide

section pre
open Cert.Pre_finite
local instance : Cert.Pre_finite.Facts := Cert.Pre_finite.Gen.facts

/-- The precondition: every logit is a real number. -/
theorem finite_reals (a0 : FVec Ideal S1x200x134 .f32) (h : fn a0 = fun _ => 1#1) (i : S1x200x134.Idx) :
    ∃ v : ℝ, a0 i = (v : EReal) :=
  have e := congrFun h (fun a => a.elim0)
  haveI : Subsingleton S_.Idx := ⟨fun a b => funext fun i => i.elim0⟩
  Cert.Resize.real_of_bits (a0 i) (Host.reduce_andi_all _ _ _ _ _ e i)

end pre

end Cert.Pick

end
-- ==== Proof.TopRun.lean ====
/-
  The picking call's run: its body from the staged block of logits to the three results, and the three result arrays.
-/
module

public import proofs.«01_k».proof.Proof.TopSoft
public import proofs.«01_k».proof.Proof.Gen.TopKIdeal.Frame

@[expose] public section

noncomputable section

namespace Cert.Pick

open Cert.TopKIdeal Cert.TopKIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

abbrev noVariants : Variants := Variants.none

/-- The three results for the scores `s`: the hundred largest scores, each across 128 columns, and their columns and rows. -/
def valsOf (s : Fin 26600 → EReal) : Vec Ideal S100x1x128 .f32 := fun i => s (top s (up (i 0)))
def colsOf (s : Fin 26600 → EReal) : Vec Ideal S100 .i32 := fun i => BitVec.ofNat 32 (colNo (top s (up (i 0)))).val
def rowsOf (s : Fin 26600 → EReal) : Vec Ideal S100 .i32 := fun i => BitVec.ofNat 32 (rowNo (top s (up (i 0)))).val

theorem vals_eq {s x1 x2 x3 x4 acc} (g : Good s 100 x1 x2 x3 x4 acc) : x1 = valsOf s := by
  refine funext fun i => ?_
  have h1 : i = ix3 (i 0) (0 : Fin 1) (i 2) :=
    (eq_ix3 i).trans (congrArg (fun z : Fin 1 => ix3 (i 0) z (i 2)) (Subsingleton.elim _ _))
  refine (congrArg x1 h1).trans ?_
  exact g.vals (i 0) (i 0).isLt (i 2)

theorem cols_eq {s x1 x2 x3 x4 acc} (g : Good s 100 x1 x2 x3 x4 acc) : x2 = colsOf s := by
  refine funext fun i => ?_
  rw [eq_ix1 i]
  exact g.colsAt (i 0) (i 0).isLt

theorem rows_eq {s x1 x2 x3 x4 acc} (g : Good s 100 x1 x2 x3 x4 acc) : x3 = rowsOf s := by
  refine funext fun i => ?_
  rw [eq_ix1 i]
  exact g.rowsAt (i 0) (i 0).isLt

variable (m : (ℓ : Loc nD τ sig) → Buf (Elt Ideal) ℓ) (ρ : Dev nD → PrngReg)

/-- The staged block of logits, and its scores. -/
def staged (c : Dev nD) : Vec Ideal S200x134 .f32 := iblk m c 0 t0_0
def scores (c : Dev nD) : Fin 26600 → EReal := scoreOf fun r k => staged m c (ix2 r k)

variable (A1 : Dev nD → Vec Ideal S100x1x128 .f32) (A2 A3 : Dev nD → Vec Ideal S100 .i32)

/-- The proof's data: the arrays as the call finds them; after the body the input block in place and the results written. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => A1 c
    | ⟨2, _⟩ => A2 c
    | ⟨3, _⟩ => A3 c
  Φ _ := Pipeline.ΦA spec0 c
  q _ := fullShare
  owed _ := 0

theorem A_eq (c : Dev nD) (w : Fin cfg0.W) : (dats m A1 A2 A3 0 c).A w = V m c (Pipeline.arrRef spec0 w) := rfl
theorem after_in (c : Dev nD) (t : Fin cfg0.N) : (dats m A1 A2 A3 0 c).after 0 t = iblk m c 0 t := by dsimp only [dats]
theorem after_vals (c : Dev nD) (t : Fin cfg0.N) : (dats m A1 A2 A3 0 c).after 1 t = A1 c := by dsimp only [dats]
theorem after_cols (c : Dev nD) (t : Fin cfg0.N) : (dats m A1 A2 A3 0 c).after 2 t = A2 c := by dsimp only [dats]
theorem after_rows (c : Dev nD) (t : Fin cfg0.N) : (dats m A1 A2 A3 0 c).after 3 t = A3 c := by dsimp only [dats]

theorem before_in (c : Dev nD) (t : Fin cfg0.N) (d) : (dats m A1 A2 A3 0 c).before 0 t d = iblk m c 0 t :=
  before0_0_of m (dats m A1 A2 A3 0 c) (A_eq m A1 A2 A3 c 0) (after_in m A1 A2 A3 c) t d

/-- Some property that a trip keeps holds of the start, and after a hundred trips says that the results are these. -/
def Ends (c : Dev nD) (a1 : Vec Ideal S100x1x128 .f32) (a2 a3 : Vec Ideal S100 .i32) : Prop :=
  ∃ Good, Kept (F := Ideal) Good
    ∧ (∀ x1 x2 x3, Good 0 x1 x2 x3 (k0_pay2 (staged m c)) (k0_pay4 (staged m c), k0_pay5 (staged m c)))
    ∧ ∀ x1 x2 x3 x4 acc, Good 100 x1 x2 x3 x4 acc → x1 = a1 ∧ x2 = a2 ∧ x3 = a3

/-- The scratch buffer, whole, as the body takes it and as it gives it back. -/
theorem lent_scratch (c : Dev nD) (f : Buf (Elt Ideal) ((c : Thread nD τ).loc cc0_scratch0)) :
    iprop(((c : Thread nD τ).loc cc0_scratch0) ↦{fullShare} f)
      ⊢ (iprop(∃ d, owns (c : Thread nD τ) (Memref.whole cc0_scratch0 : Memref sig .tc .vmem S200x134 .f32) fullShare d) : sProp 𝕄) := by
  iintro H
  iexists f
  iapply (Entails.of_eq (owns_whole (c : Thread nD τ) cc0_scratch0 fullShare f).symm)
  iexact H

theorem back_scratch (c : Dev nD) (x : Vec Ideal S200x134 .f32) :
    iprop(owns (c : Thread nD τ) (Memref.whole cc0_scratch0 : Memref sig .tc .vmem S200x134 .f32) fullShare x)
      ⊢ (iprop(∃ f : Buf (Elt Ideal) ((c : Thread nD τ).loc cc0_scratch0), ((c : Thread nD τ).loc cc0_scratch0) ↦{fullShare} f) : sProp 𝕄) := by
  iintro H
  iexists x
  iapply (Entails.of_eq (owns_whole (c : Thread nD τ) cc0_scratch0 fullShare x))
  iexact H

theorem staged_at (c : Dev nD) (t : Fin cfg0.N) : (iblk m c 0 t : Vec Ideal S200x134 .f32) = staged m c := by
  unfold staged
  rw [fin_N0 t]

theorem start_of (x s) (h0 : ∀ r k, k0_pay1 x (ix2 r k) = left s 0 r k) (x1 x2 x3) :
    Good s 0 x1 x2 x3 (k0_pay2 x) (k0_pay4 x, k0_pay5 x) :=
  good_start (s := s) x h0 x1 x2 x3

/-- With no score negative the results are the hundred largest scores, their columns and their rows. -/
theorem ends_scores (c : Dev nD) (hs : ∀ q, 0 ≤ scores m c q) :
    Ends m c (valsOf (scores m c)) (colsOf (scores m c)) (rowsOf (scores m c)) :=
  ⟨Good (scores m c), kept (s := scores m c) hs,
    start_of (staged m c) (scores m c) (fun r k => pay1_left (staged m c) r k),
    fun _ _ _ _ _ g => ⟨vals_eq g, cols_eq g, rows_eq g⟩⟩

variable (hE : ∀ c, Ends m c (A1 c) (A2 c) (A3 c))

include hE in
theorem body_obligation (c : Dev nD) : BodyObligation (dats m A1 A2 A3 0 c) (defs₀ (F := Ideal)) noVariants () Set.univ := fun t => by
  obtain ⟨Good, hkept, hstart, hend⟩ := hE c
  rw [← staged_at m c t] at hstart
  rw [bigSep_W0, bigSep_W0]
  sl_whnfR [defs₀, Defs.onTc]
  simp only [before_in]
  rw [show (dats m A1 A2 A3 0 c).Φ t.succ = (dats m A1 A2 A3 0 c).Φ t.castSucc from rfl,
    show (dats m A1 A2 A3 0 c).owesAt () t.succ = (dats m A1 A2 A3 0 c).owesAt () t.castSucc from rfl, after_in, after_vals, after_cols, after_rows]
  rw [show (dats m A1 A2 A3 0 c).Φ t.castSucc = Pipeline.ΦA spec0 c from rfl]
  unfold Pipeline.ΦA
  rw [scopedRest0_eq]
  iintro ⟨⟨⟨%f4, H4⟩, HR⟩, Ho, ⟨%d0, H0⟩, ⟨%d1, H1⟩, ⟨%d2, H2⟩, ⟨%d3, H3⟩⟩
  iapply (kernel_run c _ _ _ _ _ _ _ _ _ _ Good hkept (iblk m c 0 t) hstart Set.univ _ rfl)
  isplitl [H0]; · iexact H0
  isplitl [H1]; · iexists _; iexact H1
  isplitl [H2]; · iexists _; iexact H2
  isplitl [H3]; · iexists _; iexact H3
  isplitl [H4]
  · iapply (lent_scratch c f4); iexact H4
  iintro ⟨H0, %x1, %x2, %x3, %x4, %acc, H1, H2, H3, H4, %g⟩
  obtain ⟨e1, e2, e3⟩ := hend x1 x2 x3 x4 acc g
  rw [← e1, ← e2, ← e3]
  isplitl [H4 HR]
  · isplitl [H4]
    · iapply (back_scratch c x4); iexact H4
    iexact HR
  isplitl [Ho]; · iexact Ho
  isplitl [H0]; · iexact H0
  isplitl [H1]; · iexact H1
  isplitl [H2]; · iexact H2
  iexact H3

include hE in
-- the run theorem's implicit arguments are found by unfolding plain definitions in the types of what is to be found
set_option backward.isDefEq.respectTransparency.types false in
/-- The run: every array of the call ends at what the data say. -/
theorem run_main : θ_run defs (onTc (τ := τ) (main (F := Ideal))) (s₀ m ρ)
    (fun r => Pipeline.FramePost cfgs (dats m A1 A2 A3) 0 (V m) r ∧ r.2.sem = fun _ => 0) :=
  Pipeline.θ_run_frame (Q' := _) cfgs (dats m A1 A2 A3) (0 : Fin 1) launch0 defs₀ noVariants m ρ main
    (hbody := fun c => (body_obligation m A1 A2 A3 hE c).loose) (hshare := fun c => (dats m A1 A2 A3 0 c).share_full fun _ => rfl)
    (howed := fun _ _ => rfl) (V := V m) (hmain := hmain m noVariants) (hA := fun _ _ => rfl) (hΦ := fun _ _ => rfl)

include hE in
theorem unchanged : θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_with_sems (frame_of m ρ (dats m A1 A2 A3) fun _ _ => rfl) (run_main m ρ A1 A2 A3 hE)

/-! The one block of each result is the whole array. -/

theorem emb_vals (t : Fin cfg0.N) (y : S100x1x128.Idx) : ((cfg0.win 1).rect t).emb y = y := by
  refine funext fun d => Fin.ext ?_
  refine (Pipeline.Window.rect_emb_val (cfg0.win 1) t y d).trans ?_
  fin_cases d <;> exact Nat.zero_add _

theorem emb_cols (t : Fin cfg0.N) (y : S100.Idx) : ((cfg0.win 2).rect t).emb y = y := by
  refine funext fun d => Fin.ext ?_
  refine (Pipeline.Window.rect_emb_val (cfg0.win 2) t y d).trans ?_
  fin_cases d <;> exact Nat.zero_add _

theorem emb_rows (t : Fin cfg0.N) (y : S100.Idx) : ((cfg0.win 3).rect t).emb y = y := by
  refine funext fun d => Fin.ext ?_
  refine (Pipeline.Window.rect_emb_val (cfg0.win 3) t y d).trans ?_
  fin_cases d <;> exact Nat.zero_add _

theorem emb_in (t : Fin cfg0.N) (y : S200x134.Idx) : ((cfg0.win 0).rect t).emb y = y := by
  refine funext fun d => Fin.ext ?_
  refine (Pipeline.Window.rect_emb_val (cfg0.win 0) t y d).trans ?_
  fin_cases d <;> exact Nat.zero_add _

theorem final_vals (c : Dev nD) : (dats m A1 A2 A3 0 c).arrAt 1 cfg0.N = A1 c := by
  refine (dats m A1 A2 A3 0 c).arrAt_eq_of_cover 1 (A1 c) (fun t _ => ?_) (fun i => ?_)
  · refine funext fun y => ?_
    show (dats m A1 A2 A3 0 c).after 1 t y = A1 c (((cfg0.win 1).rect t).emb y)
    exact (congrFun (after_vals m A1 A2 A3 c t) y).trans (congrArg (A1 c) (emb_vals t y)).symm
  · refine ⟨t0_0, flush0_1 _, ?_⟩
    have h := View.emb_mem_set ((cfg0.win 1).blk t0_0).view i
    rw [show ((cfg0.win 1).blk t0_0).view.emb i = i from emb_vals t0_0 i] at h
    exact h

theorem final_cols (c : Dev nD) : (dats m A1 A2 A3 0 c).arrAt 2 cfg0.N = A2 c := by
  refine (dats m A1 A2 A3 0 c).arrAt_eq_of_cover 2 (A2 c) (fun t _ => ?_) (fun i => ?_)
  · refine funext fun y => ?_
    show (dats m A1 A2 A3 0 c).after 2 t y = A2 c (((cfg0.win 2).rect t).emb y)
    exact (congrFun (after_cols m A1 A2 A3 c t) y).trans (congrArg (A2 c) (emb_cols t y)).symm
  · refine ⟨t0_0, flush0_2 _, ?_⟩
    have h := View.emb_mem_set ((cfg0.win 2).blk t0_0).view i
    rw [show ((cfg0.win 2).blk t0_0).view.emb i = i from emb_cols t0_0 i] at h
    exact h

theorem final_rows (c : Dev nD) : (dats m A1 A2 A3 0 c).arrAt 3 cfg0.N = A3 c := by
  refine (dats m A1 A2 A3 0 c).arrAt_eq_of_cover 3 (A3 c) (fun t _ => ?_) (fun i => ?_)
  · refine funext fun y => ?_
    show (dats m A1 A2 A3 0 c).after 3 t y = A3 c (((cfg0.win 3).rect t).emb y)
    exact (congrFun (after_rows m A1 A2 A3 c t) y).trans (congrArg (A3 c) (emb_rows t y)).symm
  · refine ⟨t0_0, flush0_3 _, ?_⟩
    have h := View.emb_mem_set ((cfg0.win 3).blk t0_0).view i
    rw [show ((cfg0.win 3).blk t0_0).view.emb i = i from emb_rows t0_0 i] at h
    exact h

include hE in
/-- The run of the program: its three results, and its argument unchanged. -/
theorem run_top : θ_run defs (onTc (τ := τ) (main (F := Ideal))) ⟨m, fun _ => 0, ρ⟩ fun r => ∀ c : Dev nD,
      r.2.mem ((c.tc : Thread nD τ).loc main_v1_0) = A1 c
        ∧ r.2.mem ((c.tc : Thread nD τ).loc main_v1_1) = A2 c
        ∧ r.2.mem ((c.tc : Thread nD τ).loc main_v1_2) = A3 c
        ∧ r.2.mem ((c.tc : Thread nD τ).loc main_arg0) = m ((c.tc : Thread nD τ).loc main_arg0) :=
  (θ_run defs _ _).mono (fun _ h c => ⟨((h.1.1 c).1 1).trans (final_vals m A1 A2 A3 c), ((h.1.1 c).1 2).trans (final_cols m A1 A2 A3 c),
    ((h.1.1 c).1 3).trans (final_rows m A1 A2 A3 c), h.2.1 c⟩) (θ_run_and (run_main m ρ A1 A2 A3 hE) (unchanged m ρ A1 A2 A3 hE))

/-- The staged block is the argument, its leading axis dropped. -/
theorem staged_eq (c : Dev nD) : staged m c
    = shapeCast S200x134 (m ((c : Thread nD τ).loc main_arg0) : Vec Ideal S1x200x134 .f32) shapeCasts_S1x200x134_S200x134 := by
  have e : (V m c main_v0 : Vec Ideal S200x134 .f32)
      = shapeCast S200x134 (m ((c : Thread nD τ).loc main_arg0) : Vec Ideal S1x200x134 .f32) shapeCasts_S1x200x134_S200x134 := by
    show StableHlo.after hostOps0 (fun b => m (c, b)) (Proc.devRef .tc main_v0) = _
    after_results
    try rfl
  refine funext fun y => ?_
  refine Eq.trans ?_ (congrFun e y)
  show (V m c main_v0 : Vec Ideal S200x134 .f32) (((cfg0.win 0).rect t0_0).emb y) = _
  exact congrArg _ (emb_in t0_0 y)

end Cert.Pick

end
-- ==== Proof.TopFree.lean ====
/-
  The picking call on any logits: what a trip does is a function of the table and of what the loop carries, the row it
  picks is always one of the two hundred, and so the call runs to the end whatever the logits are.
-/
module

public import proofs.«01_k».proof.Proof.TopRun

@[expose] public section

noncomputable section

namespace Cert.Pick

open Idealize.ShloMosaic Cert.TopKIdeal Cert.TopKIdeal.Gen

/-- The table and what the loop carries. -/
abbrev St := Vec Ideal S200x134 .f32 × Carry Ideal

/-- One trip. -/
def stepOn (σ : St) : St :=
  if h : (pickRow σ.2).toNat < 200 then
    (fun y => if (y 0).val = (pickRow σ.2).toNat then struck σ.2 (rowOf σ.1 _ h) (ix2 0 (y 1)) else σ.1 y,
      carryOn σ.2 (rowOf σ.1 _ h))
  else σ

variable (x0 : Vec Ideal S200x134 .f32)

/-- The table and what the loop carries after `k` trips. -/
def stAt : Nat → St
  | 0 => (k0_pay2 x0, (k0_pay4 x0, k0_pay5 x0))
  | k + 1 => stepOn (stAt k)

/-- The three results, in terms of the trips. -/
def freeVals : Vec Ideal S100x1x128 .f32 := fun i => k0_pay14 (stAt x0 (i 0).val).2.1 (ix3 0 0 (i 2))
def freeCols : Vec Ideal S100 .i32 := fun i => pickCol (stAt x0 (i 0).val).2
def freeRows : Vec Ideal S100 .i32 := fun i => pickRow (stAt x0 (i 0).val).2

/-- What the buffers and the carried arrays hold after `k` trips; the last column of the table is minus one throughout. -/
structure Free (k : Nat) (x1 : Vec Ideal S100x1x128 .f32) (x2 x3 : Vec Ideal S100 .i32) (x4 : Vec Ideal S200x134 .f32)
    (acc : Carry Ideal) : Prop where
  now : (x4, acc) = stAt x0 k
  vals : ∀ j : Fin 100, j.val < k → ∀ l, x1 (ix3 j 0 l) = k0_pay14 (stAt x0 j.val).2.1 (ix3 0 0 l)
  colsAt : ∀ j : Fin 100, j.val < k → x2 (ix1 j) = pickCol (stAt x0 j.val).2
  rowsAt : ∀ j : Fin 100, j.val < k → x3 (ix1 j) = pickRow (stAt x0 j.val).2
  last : ∀ r : Fin 200, x4 (ix2 r (133 : Fin 134)) = -1
  tops : ∀ (i : Fin 2) (l : Fin 128), i.val * 128 + l.val < 200 → -1 ≤ acc.1 (ix2 i l)
  pads : ∀ (i : Fin 2) (l : Fin 128), ¬ i.val * 128 + l.val < 200 → acc.1 (ix2 i l) < -1

/-- The row picked. -/
theorem free_row {k : Nat} {x1 x2 x3 x4} {acc : Carry Ideal} (g : Free x0 k x1 x2 x3 x4 acc) :
    ∃ (i : Fin 2) (l : Fin 128), (pickRow acc).toNat = i.val * 128 + l.val ∧ i.val * 128 + l.val < 200
      ∧ k0_pay11 k0_pay6 acc.1 (ix2 0 0) = BitVec.ofNat 32 (i.val * 128 + l.val) := by
  obtain ⟨i, l, h1, h2, h3, -⟩ := pay11_spec acc.1
  refine ⟨i, l, by rw [pickRow_eq, h1, toNat_small _ (by omega)], ?_, h1⟩
  by_contra h
  have hp := g.pads i l h
  rw [h2] at hp
  exact absurd ((g.tops 0 0 (by decide)).trans (h3 0 0)) (not_le.2 hp)

/-- Striking a row leaves its last column at minus one. -/
theorem struck_last {k : Nat} {x1 x2 x3 x4} {acc : Carry Ideal} (g : Free x0 k x1 x2 x3 x4 acc) (h : (pickRow acc).toNat < 200) :
    struck acc (rowOf x4 _ h) (ix2 0 (133 : Fin 134)) = -1 := by
  refine (pay15_apply _ _ _ _).trans ?_
  split
  · rfl
  · exact g.last ⟨_, h⟩

theorem kept_free : Kept (Free x0) where
  inside k x1 x2 x3 x4 acc _ g := by
    obtain ⟨i, l, e1, e2, -⟩ := free_row x0 g
    omega
  next k hk x1 x2 x3 x4 acc g h x1' x2' x3' x4' h1 h2 h3 h4 := by
    obtain ⟨i, l, e1, e2, e3⟩ := free_row x0 g
    have hacc : acc = (stAt x0 k).2 := congrArg Prod.snd g.now
    have hA : ∀ (i' : Fin 2) (l' : Fin 128), (carryOn acc (rowOf x4 _ h)).1 (ix2 i' l')
        = if i'.val * 128 + l'.val = i.val * 128 + l.val then k0_pay7 (struck acc (rowOf x4 _ h)) (ix2 0 0) else acc.1 (ix2 i' l') := by
      intro i' l'
      refine (pay8_apply _ _ _ _ _).trans ?_
      rw [pay12_apply, e3]
      simp only [place_inj]
      rw [select_if]
    refine ⟨?_, fun j hj l => ?_, fun j hj => ?_, fun j hj => ?_, fun r => ?_, fun i' l' h' => ?_, fun i' l' h' => ?_⟩
    · show _ = stepOn (stAt x0 k)
      rw [← g.now]
      unfold stepOn
      rw [dif_pos h]
      refine Prod.ext (funext fun y => ?_) rfl
      rw [eq_ix2 y]
      exact h4 (y 0) (y 1)
    · rw [h1]
      split
      · next e => rw [e, ← hacc]
      · exact g.vals j (by omega) l
    · rw [h2]
      split
      · next e => rw [e, ← hacc]
      · exact g.colsAt j (by omega)
    · rw [h3]
      split
      · next e => rw [e, ← hacc]
      · exact g.rowsAt j (by omega)
    · rw [h4]
      split
      · exact struck_last x0 g h
      · exact g.last r
    · rw [hA]
      split
      · obtain ⟨c, -, -, hle, -⟩ := rowTop_next (struck acc (rowOf x4 _ h))
        exact (struck_last x0 g h).symm.le.trans (hle 133)
      · exact g.tops i' l' h'
    · rw [hA, if_neg (by omega)]
      exact g.pads i' l' h'

theorem free_start (x1 x2 x3) : Free x0 0 x1 x2 x3 (k0_pay2 x0) (k0_pay4 x0, k0_pay5 x0) where
  now := rfl
  vals j hj := absurd hj (Nat.not_lt_zero _)
  colsAt j hj := absurd hj (Nat.not_lt_zero _)
  rowsAt j hj := absurd hj (Nat.not_lt_zero _)
  last r := (pay2_apply x0 r 133).trans ((pay1_left x0 r 133).trans (by unfold left; rw [dif_neg (by decide)]))
  tops i l h := by
    show -1 ≤ k0_pay4 x0 (ix2 i l)
    rw [pay4_apply, dif_pos h]
    obtain ⟨c, -, -, hle, -⟩ := rowTop_first x0 ⟨_, h⟩
    refine le_trans (le_of_eq ?_) (hle 133)
    exact ((pay1_left x0 _ 133).trans (by unfold left; rw [dif_neg (by decide)])).symm
  pads i l h := by
    show k0_pay4 x0 (ix2 i l) < -1
    rw [pay4_apply, dif_neg h]
    exact neg_two_lt

variable (m : (ℓ : Loc nD τ sig) → Buf (Elt Ideal) ℓ)

theorem ends_free (c : Dev nD) : Ends m c (freeVals (staged m c)) (freeCols (staged m c)) (freeRows (staged m c)) :=
  ⟨Free (staged m c), kept_free _, free_start _, fun x1 x2 x3 x4 acc g => ⟨funext fun i => by
      have h1 : i = ix3 (i 0) (0 : Fin 1) (i 2) :=
        (eq_ix3 i).trans (congrArg (fun z : Fin 1 => ix3 (i 0) z (i 2)) (Subsingleton.elim _ _))
      exact (congrArg x1 h1).trans (g.vals (i 0) (i 0).isLt (i 2)),
    funext fun i => (congrArg x2 (eq_ix1 i)).trans (g.colsAt (i 0) (i 0).isLt),
    funext fun i => (congrArg x3 (eq_ix1 i)).trans (g.rowsAt (i 0) (i 0).isLt)⟩⟩

end Cert.Pick

end
-- ==== Proof.TopRef.lean ====
/-
  What the reference for the picking call returns, in the words used of the kernel: the hundred largest scores, and their
  columns and rows.
-/
module

public import proofs.«01_k».proof.Proof.TopRun
public import proofs.«01_k».proof.Proof.Gen.TopKReferenceIdeal.Run

@[expose] public section

set_option maxRecDepth 8192

noncomputable section

namespace Cert.Pick

open Idealize.ShloMosaic Idealize.ShloMosaic.TcCoe
open Cert.TopKReferenceIdeal Cert.TopKReferenceIdeal.Gen

variable (y : FVec Ideal S26600 .f32) (s : Fin 26600 → EReal) (e : line y = s)
include e

theorem ref_vals (h : S26600.Slices (fun _ => 0) S100) :
    broadcastInDim S100x1x128 ![0, 1, 2] bcast_S100x1x1_S100x1x128_0_1_2 (broadcastInDim S100x1x1 ![0] bcast_S100_S100x1x1_0
      ((Host.topK S100 0 (FloatOps.cmpfTotal .gt) y h).1)) = valsOf s := by
  subst e
  refine funext fun i => ?_
  have hv := topK_vals y h (i 0)
  generalize (Host.topK S100 0 (FloatOps.cmpfTotal .gt) y h).1 = w at hv ⊢
  have e1 : broadcastInDim S100x1x128 ![0, 1, 2] bcast_S100x1x1_S100x1x128_0_1_2 (broadcastInDim S100x1x1 ![0] bcast_S100_S100x1x1_0 w) (ix3 (i 0) (i 1) (i 2))
      = w (ix1 (i 0)) := by
    pointwise
  rw [eq_ix3 i]
  exact e1.trans hv

theorem ref_cols (h : S26600.Slices (fun _ => 0) S100) (d : IVec S_ 32) (hd : d = constantI S_ 32 133#32) :
    select (andi (cmpi .ne (cmpi .slt (Host.remsi (Host.topK S100 0 (FloatOps.cmpfTotal .gt) y h).2 (broadcastInDim S100 ![] bcast_S_S100 d)) (broadcastInDim S100 ![] bcast_S_S100 (constantI S_ 32 0#32))) (broadcastInDim S100 ![] bcast_S_S100 (cmpi .slt d (constantI S_ 32 0#32)))) (cmpi .ne (Host.remsi (Host.topK S100 0 (FloatOps.cmpfTotal .gt) y h).2 (broadcastInDim S100 ![] bcast_S_S100 d)) (broadcastInDim S100 ![] bcast_S_S100 (constantI S_ 32 0#32))))
      (addi (Host.remsi (Host.topK S100 0 (FloatOps.cmpfTotal .gt) y h).2 (broadcastInDim S100 ![] bcast_S_S100 d)) (broadcastInDim S100 ![] bcast_S_S100 d))
      (Host.remsi (Host.topK S100 0 (FloatOps.cmpfTotal .gt) y h).2 (broadcastInDim S100 ![] bcast_S_S100 d)) = colsOf s := by
  subst e
  refine funext fun i => ?_
  have hv := topK_idx y h (i 0)
  generalize (Host.topK S100 0 (FloatOps.cmpfTotal .gt) y h).2 = w at hv ⊢
  rw [eq_ix1 i]
  exact rem_word w (i 0) _ (top (line y) (up (i 0))).isLt hv d hd

theorem ref_rows (h : S26600.Slices (fun _ => 0) S100) :
    select (andi (cmpi .ne (signi (Host.topK S100 0 (FloatOps.cmpfTotal .gt) y h).2) (broadcastInDim S100 ![] bcast_S_S100 (signi (id (constantI S_ 32 133#32))))) (cmpi .ne (Host.remsi (Host.topK S100 0 (FloatOps.cmpfTotal .gt) y h).2 (broadcastInDim S100 ![] bcast_S_S100 (id (constantI S_ 32 133#32)))) (broadcastInDim S100 ![] bcast_S_S100 (constantI S_ 32 0#32))))
      (subi (Host.divsi (Host.topK S100 0 (FloatOps.cmpfTotal .gt) y h).2 (broadcastInDim S100 ![] bcast_S_S100 (id (constantI S_ 32 133#32)))) (broadcastInDim S100 ![] bcast_S_S100 (constantI S_ 32 1#32)))
      (Host.divsi (Host.topK S100 0 (FloatOps.cmpfTotal .gt) y h).2 (broadcastInDim S100 ![] bcast_S_S100 (id (constantI S_ 32 133#32)))) = rowsOf s := by
  subst e
  refine funext fun i => ?_
  have hv := topK_idx y h (i 0)
  generalize (Host.topK S100 0 (FloatOps.cmpfTotal .gt) y h).2 = w at hv ⊢
  rw [eq_ix1 i]
  exact div_word w (i 0) _ (top (line y) (up (i 0))).isLt hv

omit e in
/-- The divisor the reference ends up with: 133, which is not zero. -/
theorem divisor : select (cmpi .eq (id (constantI S_ 32 133#32)) (constantI S_ 32 0#32)) (constantI S_ 32 1#32) (id (constantI S_ 32 133#32))
    = constantI S_ 32 133#32 := by
  refine funext fun i => ?_
  show Scalar.select (IntOp.cmpi .eq 133#32 0#32) 1#32 133#32 = 133#32
  decide

/-- The reference's logits, their leading axis dropped. -/
def logits (m : (ℓ : Loc nD τ sig) → Buf (Elt Ideal) ℓ) (c : Dev nD) : FVec Ideal S200x134 .f32 :=
  shapeCast _ (m ((c.tc : Thread nD τ).loc main_arg0) : FVec Ideal S1x200x134 .f32) shapeCasts_S1x200x134_S200x134

omit e in
theorem out_cols (m : (ℓ : Loc nD τ sig) → Buf (Elt Ideal) ℓ) (c : Dev nD) :
    Value.res_main_v14 m c = colsOf (scoreOf fun r k => logits m c (ix2 r k)) := by
  refine Eq.trans ?_ (ref_cols (flatY (logits m c)) _ (line_flatY (logits m c)) sliceFits_S26600_S100 _ divisor)
  unfold Value.res_main_v14 flatY softTable logits
  rfl

omit e in
theorem out_rows (m : (ℓ : Loc nD τ sig) → Buf (Elt Ideal) ℓ) (c : Dev nD) :
    Value.res_main_v15 m c = rowsOf (scoreOf fun r k => logits m c (ix2 r k)) := by
  refine Eq.trans ?_ (ref_rows (flatY (logits m c)) _ (line_flatY (logits m c)) sliceFits_S26600_S100)
  unfold Value.res_main_v15 flatY softTable logits
  rfl

omit e in
/-- The run of the reference: its three results, and its argument unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = valsOf (scoreOf fun r k => logits m c (ix2 r k))
      ∧ r.2.mem ((c.tc : Thread nD τ).loc main_v14) = colsOf (scoreOf fun r k => logits m c (ix2 r k))
      ∧ r.2.mem ((c.tc : Thread nD τ).loc main_v15) = rowsOf (scoreOf fun r k => logits m c (ix2 r k))
      ∧ r.2.mem ((c.tc : Thread nD τ).loc main_arg0) = m ((c.tc : Thread nD τ).loc main_arg0) :=
  (θ_run defs _ _).mono (fun _ h c => ⟨(h c).1.trans (ref_vals (flatY (logits m c)) _ (line_flatY (logits m c)) sliceFits_S26600_S100),
    (h c).2.1.trans (out_cols m c), (h c).2.2.1.trans (out_rows m c), (h c).2.2.2⟩) (Value.run (F := Ideal) m ρ)

end Cert.Pick

end
-- ==== Proof.lean ====
/-
  The claims on the two stages. The mask stage: both programs and the reference run to the end without a fault and leave
  their arguments and every semaphore counter as they found them, and at the ideal floats the kernel and the reference
  return the same scores and the same mask bits. The picking stage: at the ideal floats the kernel and the reference run to
  the end likewise, and return the same hundred scores, labels and row numbers.
-/
module

public import proofs.«01_k».proof.Defs
public import proofs.«01_k».proof.Proof.Gen.Masks
public import proofs.«01_k».proof.Proof.Gen.Masks.Frame
public import proofs.«01_k».proof.Proof.Gen.MasksIdeal
public import proofs.«01_k».proof.Proof.Gen.MasksIdeal.Frame

public import proofs.«01_k».proof.Proof.Gen.MasksReferenceIdeal
public import proofs.«01_k».proof.Proof.Gen.MasksReferenceIdeal.Run

public import proofs.«01_k».proof.Proof.Gen.Pre_in_range
public import proofs.«01_k».proof.Proof.Gen.Pre_finite
public import proofs.«01_k».proof.Proof.Gen.TopKIdeal
public import proofs.«01_k».proof.Proof.Gen.TopKIdeal.Skeleton
public import proofs.«01_k».proof.Proof.Gen.TopKIdeal.Loops
public import proofs.«01_k».proof.Proof.Gen.TopKIdeal.Launch
public import proofs.«01_k».proof.Proof.Gen.TopKIdeal.Points
public import proofs.«01_k».proof.Proof.Gen.TopKIdeal.Frame
public import proofs.«01_k».proof.Proof.Gen.TopKReferenceIdeal
public import proofs.«01_k».proof.Proof.Gen.TopKReferenceIdeal.Run

public import proofs.«01_k».proof.Proof.MaskPre
public import proofs.«01_k».proof.Proof.MaskRef
public import proofs.«01_k».proof.Proof.MaskRun
public import proofs.«01_k».proof.Proof.TopRun
public import proofs.«01_k».proof.Proof.TopFree
public import proofs.«01_k».proof.Proof.TopRef

@[expose] public section

set_option maxRecDepth 16384

noncomputable section

namespace Cert.Proof

open Idealize.ShloMosaic Idealize.ShloMosaic.TcCoe Idealize.SL.Sem Cert.Resize

attribute [local instance] Cert.Masks.Gen.facts Cert.MasksIdeal.Gen.facts Cert.MasksReferenceIdeal.Gen.facts
  Cert.Pre_in_range.Gen.facts Cert.TopKIdeal.Gen.facts Cert.TopKReferenceIdeal.Gen.facts Cert.Pre_finite.Gen.facts

/-- The reference has no semaphore and writes no argument. -/
theorem reference_quiescent : quiescent_MasksReferenceIdeal := fun m g _ =>
  (θ_run _ _ _).mono (fun r h => ⟨fun c => ⟨(h c).2.2.1, (h c).2.2.2.1, (h c).2.2.2.2⟩,
    sem_eq_zero_of_no_sems (by decide) r.2⟩) (Cert.MasksReferenceIdeal.Value.run (F := Ideal) m g)

/-- The kernel and the reference return the same values at the ideal floats. -/
theorem same_values : algebraic_MasksIdeal_MasksReferenceIdeal := by
  intro m g m' g' hpre hargs
  have hO := ok_ideal m hpre
  refine ⟨fun c => endV m hO c Cert.MasksIdeal.main_v6, fun c => endV m hO c Cert.MasksIdeal.main_v4, run_masks m hO g,
    (θ_run _ _ _).mono (fun r h c => ?_) (Cert.MasksReferenceIdeal.Value.run (F := Ideal) m' g')⟩
  obtain ⟨e0, e1, e2⟩ := hargs c
  obtain ⟨X, Q, hX, hQ⟩ := pre_reals _ _ _ (hpre c)
  have hX' : ∀ q a b, (StableHlo.launchContents m' c (Proc.devRef .tc Cert.MasksReferenceIdeal.main_arg0) :
      FVec Ideal Cert.MasksReferenceIdeal.S1x200x128x128 .f32) (ix4 0 q a b) = ((X q a b : ℝ) : EReal) :=
    fun q a b => (congrFun e0 (ix4 0 q a b)).trans (hX q a b)
  have hQ' : ∀ k, (StableHlo.launchContents m' c (Proc.devRef .tc Cert.MasksReferenceIdeal.main_arg1) :
      IVec Cert.MasksReferenceIdeal.S100 32) (ix1 k) = BitVec.ofNat 32 (Q k).val :=
    fun k => (congrFun e1 (ix1 k)).trans (hQ k)
  refine ⟨(h c).1.trans (funext fun i => ?_), (h c).2.1.trans (funext fun i => ?_), (h c).2.2.1, (h c).2.2.2.1, (h c).2.2.2.2⟩
  · obtain ⟨k, rfl⟩ : ∃ k, i = ix1 k := ⟨_, eq_ix1 i⟩
    refine (ref_v23_apply (StableHlo.launchContents m' c) X Q hX' hQ' _ k).trans ?_
    refine Eq.trans ?_ (result_scores m hO c X Q hX hQ k).symm
    exact congrArg (fun t : EReal => t * meanE (X (Q k))) (congrFun e2 (ix3 k 0 0))
  · obtain ⟨k, p, q, rfl⟩ : ∃ k p q, i = ix3 k p q := ⟨_, _, _, eq_ix3 i⟩
    exact (ref_v25_apply (StableHlo.launchContents m' c) X Q hX' hQ' k p q).trans
      (congrFun (result_bits m hO c X Q hX hQ) (ix3 k p q)).symm

/-- On real logits no score is negative. -/
theorem scores_nonneg (m : (ℓ : Loc Cert.TopKIdeal.nD Cert.TopKIdeal.τ Cert.TopKIdeal.sig) → Buf (Elt Ideal) ℓ)
    (h : Cert.Pre_TopKIdeal_finite m) (c : Dev Cert.TopKIdeal.nD) (q : Fin 26600) : 0 ≤ Cert.Pick.scores m c q := by
  unfold Cert.Pick.scores
  rw [Cert.Pick.staged_eq]
  exact Cert.Pick.soft_nonneg _ (fun r k => Cert.Pick.finite_reals _ (h c) _) _ _

/-- Whatever the logits are, the picking call runs to the end. -/
theorem top_quiescent : quiescent_TopKIdeal := fun m g _ =>
  Cert.Pick.unchanged m g _ _ _ (Cert.Pick.ends_free m)

theorem top_reference_quiescent : quiescent_TopKReferenceIdeal := fun m g _ =>
  (θ_run _ _ _).mono (fun r h => ⟨fun c => (h c).2.2.2, sem_eq_zero_of_no_sems (by decide) r.2⟩)
    (Cert.Pick.run_ref m g)

/-- The picking call and its reference return the same values at the ideal floats. -/
theorem same_picks : algebraic_TopKIdeal_TopKReferenceIdeal_pre_finite := by
  intro m g m' g' hpre hargs
  refine ⟨fun c => Cert.Pick.valsOf (Cert.Pick.scores m c), fun c => Cert.Pick.colsOf (Cert.Pick.scores m c),
    fun c => Cert.Pick.rowsOf (Cert.Pick.scores m c), Cert.Pick.run_top m g _ _ _ (fun c => Cert.Pick.ends_scores m c (scores_nonneg m hpre c)),
    (θ_run _ _ _).mono (fun r h c => ?_) (Cert.Pick.run_ref m' g')⟩
  have e : Cert.Pick.logits m' c = Cert.Pick.staged m c := by
    rw [Cert.Pick.staged_eq]
    unfold Cert.Pick.logits
    rw [hargs c]
  have es : (Cert.Pick.scoreOf fun r k => Cert.Pick.logits m' c (ix2 r k)) = Cert.Pick.scores m c := by
    rw [e]
    rfl
  obtain ⟨h1, h2, h3, h4⟩ := h c
  rw [es] at h1 h2 h3
  exact ⟨h1, h2, h3, h4⟩

theorem claim : Cert.Claim :=
  ⟨Cert.Masks.Gen.facts, Cert.MasksIdeal.Gen.facts, Cert.MasksReferenceIdeal.Gen.facts, Cert.TopKIdeal.Gen.facts,
    Cert.TopKReferenceIdeal.Gen.facts, Cert.Pre_in_range.Gen.facts, Cert.Pre_finite.Gen.facts,
    fun m g h => Cert.Masks.Gen.frame m g (ok_masks m h), fun m g h => Cert.MasksIdeal.Gen.frame m g (ok_ideal m h),
    reference_quiescent, fun m g _ => reference_quiescent m g trivial, top_quiescent, fun m g _ => top_quiescent m g trivial,
    top_reference_quiescent, fun m g _ => top_reference_quiescent m g trivial, trivial, same_values, same_picks⟩

end Cert.Proof
end
end
